-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096x512 : Shape := ⟨3, ![16, 4096, 512]⟩
abbrev S16x4160x512 : Shape := ⟨3, ![16, 4160, 512]⟩
abbrev S4x32x512 : Shape := ⟨3, ![4, 32, 512]⟩
abbrev S32x512 : Shape := ⟨2, ![32, 512]⟩
abbrev S_ : Shape := ⟨0, ![]⟩
abbrev S1x32x512 : Shape := ⟨3, ![1, 32, 512]⟩
abbrev S1x16 : Shape := ⟨2, ![1, 16]⟩
abbrev S16 : Shape := ⟨1, ![16]⟩

abbrev nBuf : Table → Nat
  | .hbm => 2
  | .local .scVector .vmem => 3
  | _ => 0

abbrev bufTy : (tb : Table) → Fin (nBuf tb) → BufTy
  | .hbm, ⟨0, _⟩ => ⟨S16x4096x512, .f32⟩
  | .hbm, ⟨1, _⟩ => ⟨S16x4160x512, .f32⟩
  | .local .scVector .vmem, ⟨0, _⟩ => ⟨S4x32x512, .f32⟩
  | .local .scVector .vmem, ⟨1, _⟩ => ⟨S32x512, .f32⟩
  | .local .scVector .vmem, ⟨2, _⟩ => ⟨S32x512, .f32⟩
  | _, _ => ⟨S16x4096x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let arg0 : BitVec 32 := BitVec.ofNat 32 (i 0).val
  let c32_i32 : BitVec 32 := 32#32
  let v1 : BitVec 32 := Scalar.muli arg0 c32_i32
  let c0_i32 : BitVec 32 := 0#32
  ![arg1.toNat, v1.toNat, 0]
def k0_off2 (i : grid0.Coords) : Fin 3 → Nat :=
  let arg1 : BitVec 32 := BitVec.ofNat 32 (i 1).val
  let c2048_i32_0 : BitVec 32 := 2048#32
  let arg0 : BitVec 32 := BitVec.ofNat 32 (i 0).val
  let c32_i32 : BitVec 32 := 32#32
  let v1 : BitVec 32 := Scalar.muli arg0 c32_i32
  let v2 : BitVec 32 := Scalar.addi c2048_i32_0 v1
  let c0_i32_2 : BitVec 32 := 0#32
  ![arg1.toNat, v2.toNat, 0]
def k0_off3 (i : grid0.Coords) (c0_i32_4 : BitVec 32) : Fin 3 → Nat :=
  let arg1 : BitVec 32 := BitVec.ofNat 32 (i 1).val
  let arg0 : BitVec 32 := BitVec.ofNat 32 (i 0).val
  let c2048_i32 : BitVec 32 := 2048#32
  let v0 : BitVec 32 := Scalar.muli arg0 c2048_i32
  let v11 : BitVec 32 := Scalar.addi v0 c0_i32_4
  let c0_i32_8 : BitVec 32 := 0#32
  ![arg1.toNat, v11.toNat, 0]
@[reducible] def k0_t1_loop : Scf.Loop 32 :=
  let c0_i32_32 : BitVec 32 := 0#32
  let c16_i32 : BitVec 32 := 16#32
  let v47 : BitVec 32 := Scalar.addi c0_i32_32 c16_i32
  let c1_i32_33 : BitVec 32 := 1#32
  ⟨c0_i32_32, v47, c1_i32_33⟩
def k0_off4 (i : grid0.Coords) (k0_t1 : Fin k0_t1_loop.trips) (c0_i32_76 : BitVec 32) : Fin 3 → Nat :=
  let arg1 : BitVec 32 := BitVec.ofNat 32 (i 1).val
  let arg0 : BitVec 32 := BitVec.ofNat 32 (i 0).val
  let c2048_i32 : BitVec 32 := 2048#32
  let v0 : BitVec 32 := Scalar.muli arg0 c2048_i32
  let c0_i32_32 : BitVec 32 := 0#32
  let c1_i32_33 : BitVec 32 := 1#32
  let arg17 : BitVec 32 := Scf.iv c0_i32_32 c1_i32_33 k0_t1
  let c4_i32 : BitVec 32 := 4#32
  let v102 : BitVec 32 := Scalar.muli arg17 c4_i32
  let v103 : BitVec 32 := Scalar.addi v102 c0_i32_76
  let c32_i32_77 : BitVec 32 := 32#32
  let v104 : BitVec 32 := Scalar.muli v103 c32_i32_77
  let v105 : BitVec 32 := Scalar.addi v0 v104
  let c0_i32_81 : BitVec 32 := 0#32
  ![arg1.toNat, v105.toNat, 0]
def k0_off5 (i : grid0.Coords) (k0_t1 : Fin k0_t1_loop.trips) (c0_i32_85 : BitVec 32) : Fin 3 → Nat :=
  let arg1 : BitVec 32 := BitVec.ofNat 32 (i 1).val
  let arg0 : BitVec 32 := BitVec.ofNat 32 (i 0).val
  let c2048_i32 : BitVec 32 := 2048#32
  let v0 : BitVec 32 := Scalar.muli arg0 c2048_i32
  let c0_i32_32 : BitVec 32 := 0#32
  let c1_i32_33 : BitVec 32 := 1#32
  let arg17 : BitVec 32 := Scf.iv c0_i32_32 c1_i32_33 k0_t1
  let c4_i32 : BitVec 32 := 4#32
  let v102 : BitVec 32 := Scalar.muli arg17 c4_i32
  let v114 : BitVec 32 := Scalar.addi v102 c0_i32_85
  let c32_i32_86 : BitVec 32 := 32#32
  let v115 : BitVec 32 := Scalar.muli v114 c32_i32_86
  let v116 : BitVec 32 := Scalar.addi v0 v115
  let c0_i32_90 : BitVec 32 := 0#32
  ![arg1.toNat, v116.toNat, 0]
def k0_cond1 (k0_t1 : Fin k0_t1_loop.trips) : BitVec 1 :=
  let c0_i32_32 : BitVec 32 := 0#32
  let c1_i32_33 : BitVec 32 := 1#32
  let arg17 : BitVec 32 := Scf.iv c0_i32_32 c1_i32_33 k0_t1
  let c4_i32 : BitVec 32 := 4#32
  let v102 : BitVec 32 := Scalar.muli arg17 c4_i32
  let c4_i32_148 : BitVec 32 := 4#32
  let v191 : BitVec 32 := Scalar.addi v102 c4_i32_148
  let c0_i32_149 : BitVec 32 := 0#32
  let v192 : BitVec 32 := Scalar.addi v191 c0_i32_149
  let c64_i32_150 : BitVec 32 := 64#32
  let v193 : BitVec 1 := Scalar.cmpi .slt v192 c64_i32_150
  let v194 : BitVec 32 := Scalar.extui v193
  let c0_i32_151 : BitVec 32 := 0#32
  let v195 : BitVec 1 := Scalar.cmpi .ne v194 c0_i32_151
  v195

def k0_off6 (i : grid0.Coords) (k0_t1 : Fin k0_t1_loop.trips) : Fin 3 → Nat :=
  let arg1 : BitVec 32 := BitVec.ofNat 32 (i 1).val
  let arg0 : BitVec 32 := BitVec.ofNat 32 (i 0).val
  let c2048_i32 : BitVec 32 := 2048#32
  let v0 : BitVec 32 := Scalar.muli arg0 c2048_i32
  let c0_i32_32 : BitVec 32 := 0#32
  let c1_i32_33 : BitVec 32 := 1#32
  let arg17 : BitVec 32 := Scf.iv c0_i32_32 c1_i32_33 k0_t1
  let c4_i32 : BitVec 32 := 4#32
  let v102 : BitVec 32 := Scalar.muli arg17 c4_i32
  let c0_i32_164 : BitVec 32 := 0#32
  let v211 : BitVec 32 := Scalar.addi v102 c0_i32_164
  let c32_i32_165 : BitVec 32 := 32#32
  let v212 : BitVec 32 := Scalar.muli v211 c32_i32_165
  let v213 : BitVec 32 := Scalar.addi v0 v212
  let c0_i32_169 : BitVec 32 := 0#32
  ![arg1.toNat, v213.toNat, 0]
def k0_off7 (i : grid0.Coords) (k0_t1 : Fin k0_t1_loop.trips) : Fin 3 → Nat :=
  let arg1 : BitVec 32 := BitVec.ofNat 32 (i 1).val
  let arg0 : BitVec 32 := BitVec.ofNat 32 (i 0).val
  let c2048_i32 : BitVec 32 := 2048#32
  let v0 : BitVec 32 := Scalar.muli arg0 c2048_i32
  let c0_i32_32 : BitVec 32 := 0#32
  let c1_i32_33 : BitVec 32 := 1#32
  let arg17 : BitVec 32 := Scf.iv c0_i32_32 c1_i32_33 k0_t1
  let c4_i32 : BitVec 32 := 4#32
  let v102 : BitVec 32 := Scalar.muli arg17 c4_i32
  let c4_i32_173 : BitVec 32 := 4#32
  let v222 : BitVec 32 := Scalar.addi v102 c4_i32_173
  let c0_i32_174 : BitVec 32 := 0#32
  let v223 : BitVec 32 := Scalar.addi v222 c0_i32_174
  let c32_i32_175 : BitVec 32 := 32#32
  let v224 : BitVec 32 := Scalar.muli v223 c32_i32_175
  let v225 : BitVec 32 := Scalar.addi v0 v224
  let c0_i32_179 : BitVec 32 := 0#32
  ![arg1.toNat, v225.toNat, 0]
def k0_cond2 (k0_t1 : Fin k0_t1_loop.trips) : BitVec 1 :=
  let c0_i32_32 : BitVec 32 := 0#32
  let c1_i32_33 : BitVec 32 := 1#32
  let arg17 : BitVec 32 := Scf.iv c0_i32_32 c1_i32_33 k0_t1
  let c4_i32 : BitVec 32 := 4#32
  let v102 : BitVec 32 := Scalar.muli arg17 c4_i32
  let c4_i32_152 : BitVec 32 := 4#32
  let v196 : BitVec 32 := Scalar.addi v102 c4_i32_152
  let c1_i32_153 : BitVec 32 := 1#32
  let v197 : BitVec 32 := Scalar.addi v196 c1_i32_153
  let c64_i32_154 : BitVec 32 := 64#32
  let v198 : BitVec 1 := Scalar.cmpi .slt v197 c64_i32_154
  let v199 : BitVec 32 := Scalar.extui v198
  let c0_i32_155 : BitVec 32 := 0#32
  let v200 : BitVec 1 := Scalar.cmpi .ne v199 c0_i32_155
  v200

def k0_off8 (i : grid0.Coords) (k0_t1 : Fin k0_t1_loop.trips) : Fin 3 → Nat :=
  let arg1 : BitVec 32 := BitVec.ofNat 32 (i 1).val
  let arg0 : BitVec 32 := BitVec.ofNat 32 (i 0).val
  let c2048_i32 : BitVec 32 := 2048#32
  let v0 : BitVec 32 := Scalar.muli arg0 c2048_i32
  let c0_i32_32 : BitVec 32 := 0#32
  let c1_i32_33 : BitVec 32 := 1#32
  let arg17 : BitVec 32 := Scf.iv c0_i32_32 c1_i32_33 k0_t1
  let c4_i32 : BitVec 32 := 4#32
  let v102 : BitVec 32 := Scalar.muli arg17 c4_i32
  let c1_i32_164 : BitVec 32 := 1#32
  let v211 : BitVec 32 := Scalar.addi v102 c1_i32_164
  let c32_i32_165 : BitVec 32 := 32#32
  let v212 : BitVec 32 := Scalar.muli v211 c32_i32_165
  let v213 : BitVec 32 := Scalar.addi v0 v212
  let c0_i32_169 : BitVec 32 := 0#32
  ![arg1.toNat, v213.toNat, 0]
def k0_off9 (i : grid0.Coords) (k0_t1 : Fin k0_t1_loop.trips) : Fin 3 → Nat :=
  let arg1 : BitVec 32 := BitVec.ofNat 32 (i 1).val
  let arg0 : BitVec 32 := BitVec.ofNat 32 (i 0).val
  let c2048_i32 : BitVec 32 := 2048#32
  let v0 : BitVec 32 := Scalar.muli arg0 c2048_i32
  let c0_i32_32 : BitVec 32 := 0#32
  let c1_i32_33 : BitVec 32 := 1#32
  let arg17 : BitVec 32 := Scf.iv c0_i32_32 c1_i32_33 k0_t1
  let c4_i32 : BitVec 32 := 4#32
  let v102 : BitVec 32 := Scalar.muli arg17 c4_i32
  let c4_i32_173 : BitVec 32 := 4#32
  let v222 : BitVec 32 := Scalar.addi v102 c4_i32_173
  let c1_i32_174 : BitVec 32 := 1#32
  let v223 : BitVec 32 := Scalar.addi v222 c1_i32_174
  let c32_i32_175 : BitVec 32 := 32#32
  let v224 : BitVec 32 := Scalar.muli v223 c32_i32_175
  let v225 : BitVec 32 := Scalar.addi v0 v224
  let c0_i32_179 : BitVec 32 := 0#32
  ![arg1.toNat, v225.toNat, 0]
def k0_cond3 (k0_t1 : Fin k0_t1_loop.trips) : BitVec 1 :=
  let c0_i32_32 : BitVec 32 := 0#32
  let c1_i32_33 : BitVec 32 := 1#32
  let arg17 : BitVec 32 := Scf.iv c0_i32_32 c1_i32_33 k0_t1
  let c4_i32 : BitVec 32 := 4#32
  let v102 : BitVec 32 := Scalar.muli arg17 c4_i32
  let c4_i32_156 : BitVec 32 := 4#32
  let v201 : BitVec 32 := Scalar.addi v102 c4_i32_156
  let c2_i32_157 : BitVec 32 := 2#32
  let v202 : BitVec 32 := Scalar.addi v201 c2_i32_157
  let c64_i32_158 : BitVec 32 := 64#32
  let v203 : BitVec 1 := Scalar.cmpi .slt v202 c64_i32_158
  let v204 : BitVec 32 := Scalar.extui v203
  let c0_i32_159 : BitVec 32 := 0#32
  let v205 : BitVec 1 := Scalar.cmpi .ne v204 c0_i32_159
  v205

def k0_off10 (i : grid0.Coords) (k0_t1 : Fin k0_t1_loop.trips) : Fin 3 → Nat :=
  let arg1 : BitVec 32 := BitVec.ofNat 32 (i 1).val
  let arg0 : BitVec 32 := BitVec.ofNat 32 (i 0).val
  let c2048_i32 : BitVec 32 := 2048#32
  let v0 : BitVec 32 := Scalar.muli arg0 c2048_i32
  let c0_i32_32 : BitVec 32 := 0#32
  let c1_i32_33 : BitVec 32 := 1#32
  let arg17 : BitVec 32 := Scf.iv c0_i32_32 c1_i32_33 k0_t1
  let c4_i32 : BitVec 32 := 4#32
  let v102 : BitVec 32 := Scalar.muli arg17 c4_i32
  let c2_i32_164 : BitVec 32 := 2#32
  let v211 : BitVec 32 := Scalar.addi v102 c2_i32_164
  let c32_i32_165 : BitVec 32 := 32#32
  let v212 : BitVec 32 := Scalar.muli v211 c32_i32_165
  let v213 : BitVec 32 := Scalar.addi v0 v212
  let c0_i32_169 : BitVec 32 := 0#32
  ![arg1.toNat, v213.toNat, 0]
def k0_off11 (i : grid0.Coords) (k0_t1 : Fin k0_t1_loop.trips) : Fin 3 → Nat :=
  let arg1 : BitVec 32 := BitVec.ofNat 32 (i 1).val
  let arg0 : BitVec 32 := BitVec.ofNat 32 (i 0).val
  let c2048_i32 : BitVec 32 := 2048#32
  let v0 : BitVec 32 := Scalar.muli arg0 c2048_i32
  let c0_i32_32 : BitVec 32 := 0#32
  let c1_i32_33 : BitVec 32 := 1#32
  let arg17 : BitVec 32 := Scf.iv c0_i32_32 c1_i32_33 k0_t1
  let c4_i32 : BitVec 32 := 4#32
  let v102 : BitVec 32 := Scalar.muli arg17 c4_i32
  let c4_i32_173 : BitVec 32 := 4#32
  let v222 : BitVec 32 := Scalar.addi v102 c4_i32_173
  let c2_i32_174 : BitVec 32 := 2#32
  let v223 : BitVec 32 := Scalar.addi v222 c2_i32_174
  let c32_i32_175 : BitVec 32 := 32#32
  let v224 : BitVec 32 := Scalar.muli v223 c32_i32_175
  let v225 : BitVec 32 := Scalar.addi v0 v224
  let c0_i32_179 : BitVec 32 := 0#32
  ![arg1.toNat, v225.toNat, 0]
def k0_cond4 (k0_t1 : Fin k0_t1_loop.trips) : BitVec 1 :=
  let c0_i32_32 : BitVec 32 := 0#32
  let c1_i32_33 : BitVec 32 := 1#32
  let arg17 : BitVec 32 := Scf.iv c0_i32_32 c1_i32_33 k0_t1
  let c4_i32 : BitVec 32 := 4#32
  let v102 : BitVec 32 := Scalar.muli arg17 c4_i32
  let c4_i32_160 : BitVec 32 := 4#32
  let v206 : BitVec 32 := Scalar.addi v102 c4_i32_160
  let c3_i32_161 : BitVec 32 := 3#32
  let v207 : BitVec 32 := Scalar.addi v206 c3_i32_161
  let c64_i32_162 : BitVec 32 := 64#32
  let v208 : BitVec 1 := Scalar.cmpi .slt v207 c64_i32_162
  let v209 : BitVec 32 := Scalar.extui v208
  let c0_i32_163 : BitVec 32 := 0#32
  let v210 : BitVec 1 := Scalar.cmpi .ne v209 c0_i32_163
  v210

def k0_off12 (i : grid0.Coords) (k0_t1 : Fin k0_t1_loop.trips) : Fin 3 → Nat :=
  let arg1 : BitVec 32 := BitVec.ofNat 32 (i 1).val
  let arg0 : BitVec 32 := BitVec.ofNat 32 (i 0).val
  let c2048_i32 : BitVec 32 := 2048#32
  let v0 : BitVec 32 := Scalar.muli arg0 c2048_i32
  let c0_i32_32 : BitVec 32 := 0#32
  let c1_i32_33 : BitVec 32 := 1#32
  let arg17 : BitVec 32 := Scf.iv c0_i32_32 c1_i32_33 k0_t1
  let c4_i32 : BitVec 32 := 4#32
  let v102 : BitVec 32 := Scalar.muli arg17 c4_i32
  let c3_i32_164 : BitVec 32 := 3#32
  let v211 : BitVec 32 := Scalar.addi v102 c3_i32_164
  let c32_i32_165 : BitVec 32 := 32#32
  let v212 : BitVec 32 := Scalar.muli v211 c32_i32_165
  let v213 : BitVec 32 := Scalar.addi v0 v212
  let c0_i32_169 : BitVec 32 := 0#32
  ![arg1.toNat, v213.toNat, 0]
def k0_off13 (i : grid0.Coords) (k0_t1 : Fin k0_t1_loop.trips) : Fin 3 → Nat :=
  let arg1 : BitVec 32 := BitVec.ofNat 32 (i 1).val
  let arg0 : BitVec 32 := BitVec.ofNat 32 (i 0).val
  let c2048_i32 : BitVec 32 := 2048#32
  let v0 : BitVec 32 := Scalar.muli arg0 c2048_i32
  let c0_i32_32 : BitVec 32 := 0#32
  let c1_i32_33 : BitVec 32 := 1#32
  let arg17 : BitVec 32 := Scf.iv c0_i32_32 c1_i32_33 k0_t1
  let c4_i32 : BitVec 32 := 4#32
  let v102 : BitVec 32 := Scalar.muli arg17 c4_i32
  let c4_i32_173 : BitVec 32 := 4#32
  let v222 : BitVec 32 := Scalar.addi v102 c4_i32_173
  let c3_i32_174 : BitVec 32 := 3#32
  let v223 : BitVec 32 := Scalar.addi v222 c3_i32_174
  let c32_i32_175 : BitVec 32 := 32#32
  let v224 : BitVec 32 := Scalar.muli v223 c32_i32_175
  let v225 : BitVec 32 := Scalar.addi v0 v224
  let c0_i32_179 : BitVec 32 := 0#32
  ![arg1.toNat, v225.toNat, 0]
def k0_off14 (i : grid0.Coords) (c1920_i32 : BitVec 32) : Fin 3 → Nat :=
  let arg1 : BitVec 32 := BitVec.ofNat 32 (i 1).val
  let arg0 : BitVec 32 := BitVec.ofNat 32 (i 0).val
  let c2048_i32 : BitVec 32 := 2048#32
  let v0 : BitVec 32 := Scalar.muli arg0 c2048_i32
  let v48 : BitVec 32 := Scalar.addi v0 c1920_i32
  let c0_i32_38 : BitVec 32 := 0#32
  ![arg1.toNat, v48.toNat, 0]
@[reducible] def k0_t2_loop : Scf.Loop 32 :=
  let c0_i32_68 : BitVec 32 := 0#32
  let c32_i32_69 : BitVec 32 := 32#32
  let v92 : BitVec 32 := Scalar.addi c0_i32_68 c32_i32_69
  let c1_i32_70 : BitVec 32 := 1#32
  ⟨c0_i32_68, v92, c1_i32_70⟩
def k0_off15 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v102 : Index := Scalar.indexCast arg17
  let c0 : Index := 0#32
  ![v102.toNat, 0]
def k0_off16 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v115 : Index := Scalar.indexCast arg17
  let c16 : Index := 16#32
  ![v115.toNat, 16]
def k0_off17 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v128 : Index := Scalar.indexCast arg17
  let c32 : Index := 32#32
  ![v128.toNat, 32]
def k0_off18 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v141 : Index := Scalar.indexCast arg17
  let c48 : Index := 48#32
  ![v141.toNat, 48]
def k0_off19 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v154 : Index := Scalar.indexCast arg17
  let c64 : Index := 64#32
  ![v154.toNat, 64]
def k0_off20 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v167 : Index := Scalar.indexCast arg17
  let c80 : Index := 80#32
  ![v167.toNat, 80]
def k0_off21 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v180 : Index := Scalar.indexCast arg17
  let c96 : Index := 96#32
  ![v180.toNat, 96]
def k0_off22 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v193 : Index := Scalar.indexCast arg17
  let c112 : Index := 112#32
  ![v193.toNat, 112]
def k0_off23 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v206 : Index := Scalar.indexCast arg17
  let c128 : Index := 128#32
  ![v206.toNat, 128]
def k0_off24 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v219 : Index := Scalar.indexCast arg17
  let c144 : Index := 144#32
  ![v219.toNat, 144]
def k0_off25 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v232 : Index := Scalar.indexCast arg17
  let c160 : Index := 160#32
  ![v232.toNat, 160]
def k0_off26 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v245 : Index := Scalar.indexCast arg17
  let c176 : Index := 176#32
  ![v245.toNat, 176]
def k0_off27 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v258 : Index := Scalar.indexCast arg17
  let c192 : Index := 192#32
  ![v258.toNat, 192]
def k0_off28 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v271 : Index := Scalar.indexCast arg17
  let c208 : Index := 208#32
  ![v271.toNat, 208]
def k0_off29 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v284 : Index := Scalar.indexCast arg17
  let c224 : Index := 224#32
  ![v284.toNat, 224]
def k0_off30 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v297 : Index := Scalar.indexCast arg17
  let c240 : Index := 240#32
  ![v297.toNat, 240]
def k0_off31 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v310 : Index := Scalar.indexCast arg17
  let c256 : Index := 256#32
  ![v310.toNat, 256]
def k0_off32 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v323 : Index := Scalar.indexCast arg17
  let c272 : Index := 272#32
  ![v323.toNat, 272]
def k0_off33 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v336 : Index := Scalar.indexCast arg17
  let c288 : Index := 288#32
  ![v336.toNat, 288]
def k0_off34 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v349 : Index := Scalar.indexCast arg17
  let c304 : Index := 304#32
  ![v349.toNat, 304]
def k0_off35 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v362 : Index := Scalar.indexCast arg17
  let c320 : Index := 320#32
  ![v362.toNat, 320]
def k0_off36 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v375 : Index := Scalar.indexCast arg17
  let c336 : Index := 336#32
  ![v375.toNat, 336]
def k0_off37 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v388 : Index := Scalar.indexCast arg17
  let c352 : Index := 352#32
  ![v388.toNat, 352]
def k0_off38 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v401 : Index := Scalar.indexCast arg17
  let c368 : Index := 368#32
  ![v401.toNat, 368]
def k0_off39 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v414 : Index := Scalar.indexCast arg17
  let c384 : Index := 384#32
  ![v414.toNat, 384]
def k0_off40 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v427 : Index := Scalar.indexCast arg17
  let c400 : Index := 400#32
  ![v427.toNat, 400]
def k0_off41 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v440 : Index := Scalar.indexCast arg17
  let c416 : Index := 416#32
  ![v440.toNat, 416]
def k0_off42 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v453 : Index := Scalar.indexCast arg17
  let c432 : Index := 432#32
  ![v453.toNat, 432]
def k0_off43 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v466 : Index := Scalar.indexCast arg17
  let c448 : Index := 448#32
  ![v466.toNat, 448]
def k0_off44 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v479 : Index := Scalar.indexCast arg17
  let c464 : Index := 464#32
  ![v479.toNat, 464]
def k0_off45 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v492 : Index := Scalar.indexCast arg17
  let c480 : Index := 480#32
  ![v492.toNat, 480]
def k0_off46 (k0_t2 : Fin k0_t2_loop.trips) : Fin 2 → Nat :=
  let c0_i32_68 : BitVec 32 := 0#32
  let c1_i32_70 : BitVec 32 := 1#32
  let arg17 : BitVec 32 := Scf.iv c0_i32_68 c1_i32_70 k0_t2
  let v505 : Index := Scalar.indexCast arg17
  let c496 : Index := 496#32
  ![v505.toNat, 496]
def k0_off47 (i : grid0.Coords) : Fin 3 → Nat :=
  let arg1 : BitVec 32 := BitVec.ofNat 32 (i 1).val
  let c4096_i32 : BitVec 32 := 4096#32
  let arg0 : BitVec 32 := BitVec.ofNat 32 (i 0).val
  let c32_i32 : BitVec 32 := 32#32
  let v1 : BitVec 32 := Scalar.muli arg0 c32_i32
  let v93 : BitVec 32 := Scalar.addi c4096_i32 v1
  let c0_i32_72 : BitVec 32 := 0#32
  ![arg1.toNat, v93.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4096x512 : Shape := ⟨3, ![16, 4096, 512]⟩
abbrev S64 : Shape := ⟨1, ![64]⟩
abbrev S_ : Shape := ⟨0, ![]⟩
abbrev S64x1 : Shape := ⟨2, ![64, 1]⟩
abbrev S64x2 : Shape := ⟨2, ![64, 2]⟩
abbrev S64x2x1 : Shape := ⟨3, ![64, 2, 1]⟩
abbrev S16x64x2x512 : Shape := ⟨4, ![16, 64, 2, 512]⟩
abbrev S16x64x512 : Shape := ⟨3, ![16, 64, 512]⟩
abbrev S16x4160x512 : Shape := ⟨3, ![16, 4160, 512]⟩

abbrev nBuf : Space → Nat
  | .hbm => 24
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S64, .i32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i32⟩
  | .hbm, ⟨6, _⟩ => ⟨S64x1, .i32⟩
  | .hbm, ⟨7, _⟩ => ⟨S64x1, .i32⟩
  | .hbm, ⟨8, _⟩ => ⟨S64x2, .i32⟩
  | .hbm, ⟨9, _⟩ => ⟨S_, .i32⟩
  | .hbm, ⟨10, _⟩ => ⟨S64x2, .i32⟩
  | .hbm, ⟨11, _⟩ => ⟨S64x2, .i1⟩
  | .hbm, ⟨12, _⟩ => ⟨S_, .i32⟩
  | .hbm, ⟨13, _⟩ => ⟨S64x2, .i32⟩
  | .hbm, ⟨14, _⟩ => ⟨S64x2, .i32⟩
  | .hbm, ⟨15, _⟩ => ⟨S64x2, .i32⟩
  | .hbm, ⟨16, _⟩ => ⟨S64x2x1, .i32⟩
  | .hbm, ⟨17, _⟩ => ⟨S16x64x2x512, .f32⟩
  | .hbm, ⟨18, _⟩ => ⟨S_, .f32⟩
  | .hbm, ⟨19, _⟩ => ⟨S16x64x512, .f32⟩
  | .hbm, ⟨20, _⟩ => ⟨S_, .f32⟩
  | .hbm, ⟨21, _⟩ => ⟨S16x64x512, .f32⟩
  | .hbm, ⟨22, _⟩ => ⟨S16x64x512, .f32⟩
  | .hbm, ⟨23, _⟩ => ⟨S16x4160x512, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c_0 : Ref sig .tc := ⟨.hbm, 9, rfl⟩
abbrev main_v7 : Ref sig .tc := ⟨.hbm, 10, rfl⟩
abbrev main_v8 : Ref sig .tc := ⟨.hbm, 11, rfl⟩
abbrev main_c_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Base.lean ====
/-
  What every module of this proof speaks about: the launch as the SparseCore library sees it, the arrays and scratch
  buffers, the rows of the arrays a copy moves, and the value the kernel is to leave.

  The kernel takes `x : f32[16, 4096, 512]` to `out : f32[16, 4160, 512]`: rows 0 to 4095 of each batch are `x`'s, rows
  4096 to 4159 are half the sum of `x`'s rows 0 to 63 and 2048 to 2111. Tile `s` of core `c` does batch `s`: it copies
  rows `2048 c` to `2048 c + 2047` through a ring of four 32-row buffers, and makes rows `4096 + 32 c` to
  `4096 + 32 c + 31` from two 32-row blocks of `x` it fetches into its memory.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.Batch
public import Idealize.ShloMosaic.Lib.Writes
public import Idealize.ShloMosaic.Lib.Pipeline.Kit
public import Idealize.ShloMosaic.Lib.Tactic

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are the ones the library asks for: distinct, none of them a kernel's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds beside the transfers' counters. -/
abbrev UH : Type := URounds (GSem nD τ sig) ℕ
abbrev UU : Type := UH × Counters
/-- The logic's resources over the kernel's machine. -/
abbrev MM (F : FTy → Type) : Type := MT nD τ sig (HIx 1) (Elt F) ℕ UU ℕ
abbrev EH : Emb UH (MM F) := embL
abbrev EC : UEmb Counters (MM F) := countersEmb

local notation "𝕄" => MT nD τ sig (HIx 1) (Elt F) ℕ UU ℕ

/-! ## Arrays, buffers, the tile's thread -/

abbrev xLoc (d : Dev nD) : Loc nD τ sig := (SparseCore.T d).loc main_arg0
abbrev oLoc (d : Dev nD) : Loc nD τ sig := (SparseCore.T d).loc main_v0

abbrev xV : Memref sig .scVector .hbm S16x4096x512 .f32 := Memref.whole main_arg0_scv
abbrev oV : Memref sig .scVector .hbm S16x4160x512 .f32 := Memref.whole main_v0_scv
abbrev bV : Memref sig .scVector .vmem S4x32x512 .f32 := Memref.whole cc0_scratch0
abbrev loV : Memref sig .scVector .vmem S32x512 .f32 := Memref.whole cc0_scratch1
abbrev hiV : Memref sig .scVector .vmem S32x512 .f32 := Memref.whole cc0_scratch2

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

abbrev bLoc (d : Dev nD) (L : grid0.Coords) : Loc nD τ sig := (VT d L).loc cc0_scratch0
abbrev loLoc (d : Dev nD) (L : grid0.Coords) : Loc nD τ sig := (VT d L).loc cc0_scratch1
abbrev hiLoc (d : Dev nD) (L : grid0.Coords) : Loc nD τ sig := (VT d L).loc cc0_scratch2

/-- A 32-row block of one batch of `x`, of `out`, and one of the ring's four buffers, as the kernel slices them. -/
abbrev xM (off : Fin 3 → Nat) (h : ∀ a, off a + S1x32x512.size a ≤ S16x4096x512.size a) : Memref sig .scVector .hbm S32x512 .f32 :=
  (xV.slice (Rect.unit (s := S16x4096x512) off S1x32x512.size h) (fun _ => rfl)).squeeze S32x512 squeezes_S1x32x512_S32x512
abbrev oM (off : Fin 3 → Nat) (h : ∀ a, off a + S1x32x512.size a ≤ S16x4160x512.size a) : Memref sig .scVector .hbm S32x512 .f32 :=
  (oV.slice (Rect.unit (s := S16x4160x512) off S1x32x512.size h) (fun _ => rfl)).squeeze S32x512 squeezes_S1x32x512_S32x512
abbrev bM (off : Fin 3 → Nat) (h : ∀ a, off a + S1x32x512.size a ≤ S4x32x512.size a) : Memref sig .scVector .vmem S32x512 .f32 :=
  (bV.slice (Rect.unit (s := S4x32x512) off S1x32x512.size h) (fun _ => rfl)).squeeze S32x512 squeezes_S1x32x512_S32x512

/-! ## Rows -/

/-- Rows `r` to `r + 31` of batch `b` of `x`. -/
@[irreducible] def xrows (b r : ℕ) : Finset S16x4096x512.Idx :=
  Finset.univ.filter fun i => (i 0).val = b ∧ r ≤ (i 1).val ∧ (i 1).val < r + 32
/-- Rows `r` to `r + 31` of batch `b` of `out`. -/
@[irreducible] def orows (b r : ℕ) : Finset S16x4160x512.Idx :=
  Finset.univ.filter fun i => (i 0).val = b ∧ r ≤ (i 1).val ∧ (i 1).val < r + 32
/-- Buffer `p` of the ring. -/
@[irreducible] def slot (p : ℕ) : Finset S4x32x512.Idx := Finset.univ.filter fun i => (i 0).val = p

theorem mem_xrows {b r : ℕ} {i : S16x4096x512.Idx} : i ∈ xrows b r ↔ (i 0).val = b ∧ r ≤ (i 1).val ∧ (i 1).val < r + 32 := by
  unfold xrows; rw [Finset.mem_filter]; exact and_iff_right (Finset.mem_univ _)
theorem mem_orows {b r : ℕ} {i : S16x4160x512.Idx} : i ∈ orows b r ↔ (i 0).val = b ∧ r ≤ (i 1).val ∧ (i 1).val < r + 32 := by
  unfold orows; rw [Finset.mem_filter]; exact and_iff_right (Finset.mem_univ _)
theorem mem_slot {p : ℕ} {i : S4x32x512.Idx} : i ∈ slot p ↔ (i 0).val = p := by
  unfold slot; rw [Finset.mem_filter]; exact and_iff_right (Finset.mem_univ _)

/-- The elements a block of `x` names are its rows. -/
theorem set_xM {b r : ℕ} (h) : (xM ![b, r, 0] h).view.set = xrows b r := by
  show (((View.whole main_arg0_scv).slice (Rect.unit (s := S16x4096x512) _ S1x32x512.size h)).reshape S32x512 squeezes_S1x32x512_S32x512.numel_eq).set = _
  rw [View.set_reshape, View.set_slice_whole]
  ext i
  rw [Rect.mem_set_unit, mem_xrows]
  constructor
  · intro H
    have h0 := H 0; have h1 := H 1
    simp at h0 h1
    omega
  · rintro ⟨h0, h1, h2⟩ a
    match a with
    | 0 => simp; omega
    | 1 => simp; omega
    | 2 => exact ⟨Nat.zero_le _, (i 2).isLt.trans_eq (Nat.zero_add 512).symm⟩
theorem set_oM {b r : ℕ} (h) : (oM ![b, r, 0] h).view.set = orows b r := by
  show (((View.whole main_v0_scv).slice (Rect.unit (s := S16x4160x512) _ S1x32x512.size h)).reshape S32x512 squeezes_S1x32x512_S32x512.numel_eq).set = _
  rw [View.set_reshape, View.set_slice_whole]
  ext i
  rw [Rect.mem_set_unit, mem_orows]
  constructor
  · intro H
    have h0 := H 0; have h1 := H 1
    simp at h0 h1
    omega
  · rintro ⟨h0, h1, h2⟩ a
    match a with
    | 0 => simp; omega
    | 1 => simp; omega
    | 2 => exact ⟨Nat.zero_le _, (i 2).isLt.trans_eq (Nat.zero_add 512).symm⟩
theorem set_bM {p : ℕ} (h) : (bM ![p, 0, 0] h).view.set = slot p := by
  show (((View.whole cc0_scratch0).slice (Rect.unit (s := S4x32x512) _ S1x32x512.size h)).reshape S32x512 squeezes_S1x32x512_S32x512.numel_eq).set = _
  rw [View.set_reshape, View.set_slice_whole]
  ext i
  rw [Rect.mem_set_unit, mem_slot]
  constructor
  · intro H
    have h0 := H 0
    simp at h0
    omega
  · rintro h0 a
    match a with
    | 0 => simp; omega
    | 1 => exact ⟨Nat.zero_le _, (i 1).isLt.trans_eq (Nat.zero_add 32).symm⟩
    | 2 => exact ⟨Nat.zero_le _, (i 2).isLt.trans_eq (Nat.zero_add 512).symm⟩

/-- Where element `y` of a 32-row block lies in the block read as one batch of 32 rows. -/
abbrev unsq (y : S32x512.Idx) : S1x32x512.Idx := Shape.reshapeEquiv squeezes_S1x32x512_S32x512.numel_eq y

theorem unsq_zero (y : S32x512.Idx) : (unsq y 0).val = 0 := Nat.lt_one_iff.mp (unsq y 0).isLt

/-- The coordinates of element `y` of a block. -/
theorem xM_emb {b r : ℕ} (h) (y : S32x512.Idx) :
    ((((xM ![b, r, 0] h).view.emb y : S16x4096x512.Idx) 0).val = b) ∧ ((((xM ![b, r, 0] h).view.emb y : S16x4096x512.Idx) 1).val = r + (unsq y 1).val)
      ∧ ((((xM ![b, r, 0] h).view.emb y : S16x4096x512.Idx) 2).val = (unsq y 2).val) := by
  have e : ∀ a : Fin 3, ((((xM ![b, r, 0] h).view.emb y : S16x4096x512.Idx) a).val = (![b, r, 0] : Fin 3 → ℕ) a + 1 * (unsq y a).val) := fun a =>
    Rect.emb_apply (Rect.unit (s := S16x4096x512) ![b, r, 0] S1x32x512.size h) (unsq y) a
  refine ⟨(e 0).trans ?_, (e 1).trans ?_, (e 2).trans ?_⟩ <;> simp [unsq_zero]
theorem oM_emb {b r : ℕ} (h) (y : S32x512.Idx) :
    ((((oM ![b, r, 0] h).view.emb y : S16x4160x512.Idx) 0).val = b) ∧ ((((oM ![b, r, 0] h).view.emb y : S16x4160x512.Idx) 1).val = r + (unsq y 1).val)
      ∧ ((((oM ![b, r, 0] h).view.emb y : S16x4160x512.Idx) 2).val = (unsq y 2).val) := by
  have e : ∀ a : Fin 3, ((((oM ![b, r, 0] h).view.emb y : S16x4160x512.Idx) a).val = (![b, r, 0] : Fin 3 → ℕ) a + 1 * (unsq y a).val) := fun a =>
    Rect.emb_apply (Rect.unit (s := S16x4160x512) ![b, r, 0] S1x32x512.size h) (unsq y) a
  refine ⟨(e 0).trans ?_, (e 1).trans ?_, (e 2).trans ?_⟩ <;> simp [unsq_zero]
theorem bM_emb {p : ℕ} (h) (y : S32x512.Idx) :
    ((((bM ![p, 0, 0] h).view.emb y : S4x32x512.Idx) 0).val = p) ∧ ((((bM ![p, 0, 0] h).view.emb y : S4x32x512.Idx) 1).val = (unsq y 1).val)
      ∧ ((((bM ![p, 0, 0] h).view.emb y : S4x32x512.Idx) 2).val = (unsq y 2).val) := by
  have e : ∀ a : Fin 3, ((((bM ![p, 0, 0] h).view.emb y : S4x32x512.Idx) a).val = (![p, 0, 0] : Fin 3 → ℕ) a + 1 * (unsq y a).val) := fun a =>
    Rect.emb_apply (Rect.unit (s := S4x32x512) ![p, 0, 0] S1x32x512.size h) (unsq y) a
  refine ⟨(e 0).trans ?_, (e 1).trans ?_, (e 2).trans ?_⟩ <;> simp [unsq_zero]

/-- The element of `x` at batch `b`, row `r`, column `c`. -/
def xIx (b r c : ℕ) (hb : b < 16) (hr : r < 4096) (hc : c < 512) : S16x4096x512.Idx
  | 0 => ⟨b, hb⟩
  | 1 => ⟨r, hr⟩
  | 2 => ⟨c, hc⟩

/-! ## The value -/

variable [FloatOps F]

/-- Half the sum of two numbers, in the kernel's operations. -/
def halfSum (u v : F .f32) : F .f32 := FloatOps.mulf (Scalar.ofBits .f32 0x3F000000#32) (FloatOps.addf u v)

/-- What `out` is to hold, of `x`'s contents `X`. -/
def G (X : S16x4096x512.Idx → F .f32) : S16x4160x512.Idx → F .f32 := fun i =>
  if h : (i 1).val < 4096 then X (xIx (i 0).val (i 1).val (i 2).val (i 0).isLt h (i 2).isLt)
  else halfSum (X (xIx (i 0).val ((i 1).val - 4096) (i 2).val (i 0).isLt (by have := (i 1).isLt; simp at this; omega) (i 2).isLt))
    (X (xIx (i 0).val ((i 1).val - 4096 + 2048) (i 2).val (i 0).isLt (by have := (i 1).isLt; simp at this; omega) (i 2).isLt))

/-- Two elements of `x` with equal coordinates are one. -/
theorem xIx_eq {i j : S16x4096x512.Idx} (h0 : (i 0).val = (j 0).val) (h1 : (i 1).val = (j 1).val) (h2 : (i 2).val = (j 2).val) : i = j := by
  funext a
  match a with
  | 0 => exact Fin.ext h0
  | 1 => exact Fin.ext h1
  | 2 => exact Fin.ext h2

/-- `G` on a copied row. -/
theorem G_copied (X : S16x4096x512.Idx → F .f32) {o : S16x4160x512.Idx} {i : S16x4096x512.Idx}
    (h0 : (i 0).val = (o 0).val) (h1 : (i 1).val = (o 1).val) (h2 : (i 2).val = (o 2).val) : G X o = X i := by
  have hlt : (o 1).val < 4096 := h1 ▸ (i 1).isLt
  unfold G
  rw [dif_pos hlt]
  exact congrArg X (xIx_eq h0.symm h1.symm h2.symm)

/-- `G` on a row made from two. -/
theorem G_made (X : S16x4096x512.Idx → F .f32) {o : S16x4160x512.Idx} {i j : S16x4096x512.Idx}
    (h0 : (i 0).val = (o 0).val) (h1 : (i 1).val + 4096 = (o 1).val) (h2 : (i 2).val = (o 2).val)
    (g0 : (j 0).val = (o 0).val) (g1 : (j 1).val = (i 1).val + 2048) (g2 : (j 2).val = (o 2).val) : G X o = halfSum (X i) (X j) := by
  have hge : ¬ (o 1).val < 4096 := by omega
  unfold G
  rw [dif_neg hge]
  have e1 : (o 1).val - 4096 = (i 1).val := by omega
  exact congrArg₂ halfSum (congrArg X (xIx_eq h0.symm e1 h2.symm))
    (congrArg X (xIx_eq g0.symm (show (o 1).val - 4096 + 2048 = (j 1).val by omega) g2.symm))

end Cert.Proof.Unpool

end
-- ==== Proof.Steps.lean ====
/-
  The four steps the ring is made of — a copy of a block of `x` into a ring buffer begun, and waited for; a copy of a
  ring buffer out to its block of `out` begun, and waited for — each stated once, for any block, buffer and semaphore.
  A copy under way carries what it will deliver: into a buffer, that the buffer holds the block; out of it, that the
  block of `out` holds the value it is to hold.
-/
module

public import proofs.«01_k».proof.Proof.Base

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (X : S16x4096x512.Idx → F .f32)

/-! ## What is held -/

/-- Ring buffer `p` holds rows `r` to `r + 31` of batch `b` of `x`. -/
def Holds (p b r : ℕ) (f : S4x32x512.Idx → F .f32) : Prop :=
  ∀ (j : S4x32x512.Idx) (i : S16x4096x512.Idx), (j 0).val = p → (i 0).val = b → (i 1).val = r + (j 1).val → (i 2).val = (j 2).val → f j = X i

/-- `x` whole, and on some of its elements, at the share `q`. -/
abbrev xTok (q : PosShare TreeShare) : sProp 𝕄 := xLoc d ↦{q} (X : Buf (Elt F) (xLoc d))
abbrev xOn (q : PosShare TreeShare) (I : Finset S16x4096x512.Idx) : sProp 𝕄 := xLoc d ↦[I]{q} (X : Buf (Elt F) (xLoc d))
/-- A ring buffer at whatever it holds, and at a block of `x`. -/
abbrev bAny (p : ℕ) : sProp 𝕄 := iprop(∃ f, bLoc d L ↦[slot p]{fullShare} f)
abbrev bHas (p b r : ℕ) : sProp 𝕄 := iprop(∃ f, ⌜Holds X p b r f⌝ ∗ bLoc d L ↦[slot p]{fullShare} f)
/-- Rows of `out` at whatever they hold, and at what they are to hold. -/
abbrev oAny (b r : ℕ) : sProp 𝕄 := iprop(∃ f : Buf (Elt F) (oLoc d), oLoc d ↦[orows b r]{fullShare} f)
abbrev oGot (b r : ℕ) : sProp 𝕄 := oLoc d ↦[orows b r]{fullShare} (G X : Buf (Elt F) (oLoc d))

theorem inb_b0 : ∀ a, (![0, 0, 0] : Fin 3 → ℕ) a + S1x32x512.size a ≤ S4x32x512.size a := by decide
theorem inb_o0 : ∀ a, (![0, 0, 0] : Fin 3 → ℕ) a + S1x32x512.size a ≤ S16x4160x512.size a := by decide
/-- What a copy into a ring buffer, and out to `out`, pays its semaphore. -/
abbrev NB : ℕ := (bM ![0, 0, 0] inb_b0).view.dmaCredit
abbrev NO : ℕ := (oM ![0, 0, 0] inb_o0).view.dmaCredit

theorem NB_pos : 0 < NB := View.dmaCredit_pos _ (show 0 < S32x512.numel by decide)
theorem NO_pos : 0 < NO := View.dmaCredit_pos _ (show 0 < S32x512.numel by decide)

/-- A copy of the block of `x` at batch `b`, row `r` into ring buffer `p` is under way, read at the share `q`, whose
    other elements are in hand. -/
@[irreducible] def inF (sem : DmaSem sig) (q : PosShare TreeShare) (p b r : ℕ) : sProp 𝕄 :=
  iprop(Transfers.Flight (EC (F := F)) (VT d L) (.dma sem) (default : HIx 1) NB (iprop(bHas d L X p b r ∗ xOn d X q (xrows b r)))
    ∗ xOn d X q (Finset.univ \ xrows b r))
/-- A copy of ring buffer `p` to the block of `out` at batch `b`, row `r` is under way. -/
@[irreducible] def outF (sem : DmaSem sig) (p b r : ℕ) : sProp 𝕄 :=
  Transfers.Flight (EC (F := F)) (VT d L) (.dma sem) (default : HIx 1) NO (iprop(oGot d X b r ∗ bAny d L p))

/-- What the tile owes, with the waits it has made: those recorded at the start, and its own copies'. -/
abbrev owesR (O : CellTallies nD τ sig (HIx 1)) (W : Waits sig (HIx 1)) : sProp 𝕄 :=
  iprop(∃ W', ⌜∀ p ∈ W', p ∈ W ∨ p.2 = none⌝ ∗ owes (VT d L) O W')
/-- The tile may wait on any of its own semaphores. -/
abbrev mayW (O : CellTallies nD τ sig (HIx 1)) : sProp 𝕄 := Transfers.MayWaits (VT d L) (default : HIx 1) O

/-- One more wait on a copy is one of the tile's own. -/
theorem recorded {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

/-! ## What a copy leaves -/

/-- A ring buffer a block of `x` was written to holds it. -/
theorem holds_write {p b r : ℕ} (h) (h') (f : Buf (Elt F) (bLoc d L)) :
    Holds X p b r ((bM ![p, 0, 0] h').view.write (Elt F) f ((xM ![b, r, 0] h).view.read (Elt F) X) Finset.univ) := by
  intro j i hj h0 h1 h2
  have hm : j ∈ (bM ![p, 0, 0] h').view.set := by rw [set_bM]; exact mem_slot.mpr hj
  obtain ⟨y, -, rfl⟩ := Finset.mem_map.mp hm
  rw [View.write_emb_of_mem _ _ (Finset.mem_univ y)]
  obtain ⟨e0, e1, e2⟩ := bM_emb h' y
  obtain ⟨f0, f1, f2⟩ := xM_emb h y
  have e : (xM ![b, r, 0] h).view.emb y = i := xIx_eq (by rw [f0, h0]) (by rw [f1, h1, e1]) (by rw [f2, h2, e2])
  rw [View.read_apply]
  show X ((xM ![b, r, 0] h).view.emb y) = X i
  rw [e]

/-- A block of `out` a ring buffer holding the same block of `x` was written to has its value. -/
theorem got_write {p b r : ℕ} (hr : r + 32 ≤ 4096) (h) (h') {f : Buf (Elt F) (bLoc d L)} (hf : Holds X p b r f) (g : Buf (Elt F) (oLoc d)) :
    ∀ o ∈ orows b r, ((oM ![b, r, 0] h).view.write (Elt F) g ((bM ![p, 0, 0] h').view.read (Elt F) f) Finset.univ : S16x4160x512.Idx → F .f32) o = G X o := by
  intro o ho
  have hm : o ∈ (oM ![b, r, 0] h).view.set := by rw [set_oM]; exact ho
  obtain ⟨y, -, rfl⟩ := Finset.mem_map.mp hm
  obtain ⟨h0, h1, h1'⟩ := mem_orows.mp ho
  rw [View.write_emb_of_mem _ _ (Finset.mem_univ y)]
  obtain ⟨e0, e1, e2⟩ := bM_emb h' y
  obtain ⟨f0, f1, f2⟩ := oM_emb h y
  set o' : S16x4160x512.Idx := (oM ![b, r, 0] h).view.emb y with ho'
  rw [G_copied (i := xIx (o' 0).val (o' 1).val (o' 2).val (o' 0).isLt (h1'.trans_le hr) (o' 2).isLt) X rfl rfl rfl]
  rw [View.read_apply]
  exact hf _ _ e0 h0 (f1.trans (by rw [e1])) (f2.trans e2.symm)

/-! ## The steps -/

section Steps

variable {α : Type} {sem : DmaSem sig} {q : PosShare TreeShare} {p b r : ℕ} {off offp : Fin 3 → ℕ}
  {k : PUnit → Prog (TpuEff nD τ sig (Elt F) Λ₀ (VT d L).2) α} {O : CellTallies nD τ sig (HIx 1)} {W : Waits sig (HIx 1)}

/-- A copy of a block of `x` into a ring buffer begun. -/
theorem step_in {Q : α → sProp 𝕄} {h h' hsrc hdst hsem} (ho : off = ![b, r, 0]) (hp : offp = ![p, 0, 0]) :
    iprop(xTok d X q ∗ bAny d L p ∗ semVal (VT d L, SemLoc.dma sem) 0)
      ⊢ iprop((inF d L X sem q p b r -∗ wp frame (wpE (defs₀ (F := F)) 𝒱₀ (VT d L) none) Set.univ (k ⟨⟩) Q)
          -∗ wp frame (wpE (defs₀ (F := F)) 𝒱₀ (VT d L) none) Set.univ
              (.op (.enqueueDma (xM off h) (.here (bM offp h')) (.dma sem) hsrc hdst hsem) k) Q) := by
  subst ho; subst hp
  iintro ⟨Hx, ⟨%f, Hb⟩, Hs⟩ Hk
  ihave Hx' := ((pointsTo_split_subset (Finset.subset_univ (xrows b r))).1) $$ Hx
  icases Hx' with ⟨Hx, Hr⟩
  iapply (Transfers.wp_dmaLocal (EC (F := F)) 𝒱₀ (VT d L) none (default : HIx 1) NB rfl NB_pos
      (Finset.Subset.refl _) (q := q) (fs := X) (fd := f)) $$ [Hx Hb Hs]
  · rw [set_xM, set_bM]
    isplitl [Hx]; · iexact Hx
    isplitl [Hb]; · iexact Hb
    iexact Hs
  iintro Hf
  iapply Hk
  unfold inF
  isplitl [Hf]
  · iapply (Transfers.Flight_mono (EC (F := F)) (VT d L) ?_) $$ Hf
    rw [set_xM, set_bM]
    iintro ⟨Hb, Hx⟩
    isplitl [Hb]
    · iexists _; isplitr
      · ipureintro; exact holds_write d L X h h' f
      · iexact Hb
    · iexact Hx
  · iexact Hr

/-- A copy of a block of `x` into a ring buffer waited for. -/
theorem step_inWait {Q : α → sProp 𝕄} {sp' : Space} {s' : Shape} {e' : EltTy} {srcw : Memref sig (VT d L).2.kind sp' s' e'} {h' hsrc hdst} :
    iprop(inF d L X sem q p b r ∗ owesR d L O W ∗ mayW d L O)
      ⊢ iprop((iprop(bHas d L X p b r ∗ xTok d X q ∗ semVal (VT d L, SemLoc.dma sem) 0 ∗ owesR d L O W)
            -∗ wp frame (wpE (defs₀ (F := F)) 𝒱₀ (VT d L) none) Set.univ (k ⟨⟩) Q)
          -∗ wp frame (wpE (defs₀ (F := F)) 𝒱₀ (VT d L) none) Set.univ
              (.op (.waitDma2 sem srcw (bM offp h') hsrc hdst) k) Q) := by
  unfold inF
  iintro ⟨⟨Hf, Hr⟩, ⟨%W', %hW', HO⟩, Hm⟩ Hk
  iapply (Transfers.wp_waitLocalO (EC (F := F)) 𝒱₀ (VT d L) none (default : HIx 1) (dstw := bM offp h') (N := NB) rfl (O := O) (W := W')) $$ [Hf HO Hm]
  · isplitl [Hf]; · iexact Hf
    isplitl [HO]; · iexact HO
    iapply (Transfers.MayWaits.elim (SemLoc.dma sem)) $$ Hm
  iintro ⟨⟨Hb, Hx⟩, Hs, HO⟩
  iapply Hk
  isplitl [Hb]; · iexact Hb
  isplitl [Hx Hr]
  · iapply ((pointsTo_split_subset (Finset.subset_univ (xrows b r))).2)
    isplitl [Hx]; · iexact Hx
    iexact Hr
  isplitl [Hs]; · iexact Hs
  iexists _; isplitr
  · ipureintro; exact recorded (sm := SemLoc.dma sem) hW'
  · iexact HO

/-- A copy of a ring buffer out to the same block of `out` begun. -/
theorem step_out {Q : α → sProp 𝕄} {h h' hsrc hdst hsem} (hr : r + 32 ≤ 4096) (ho : off = ![b, r, 0]) (hp : offp = ![p, 0, 0]) :
    iprop(bHas d L X p b r ∗ oAny (F := F) d b r ∗ semVal (VT d L, SemLoc.dma sem) 0)
      ⊢ iprop((outF d L X sem p b r -∗ wp frame (wpE (defs₀ (F := F)) 𝒱₀ (VT d L) none) Set.univ (k ⟨⟩) Q)
          -∗ wp frame (wpE (defs₀ (F := F)) 𝒱₀ (VT d L) none) Set.univ
              (.op (.enqueueDma (bM offp h') (.here (oM off h)) (.dma sem) hsrc hdst hsem) k) Q) := by
  subst ho; subst hp
  iintro ⟨⟨%f, %hf, Hb⟩, ⟨%g, Ho⟩, Hs⟩ Hk
  iapply (Transfers.wp_dmaLocal (EC (F := F)) 𝒱₀ (VT d L) none (default : HIx 1) NO rfl NO_pos
      (Finset.Subset.refl _) (q := fullShare) (fs := f) (fd := g)) $$ [Hb Ho Hs]
  · rw [set_oM, set_bM]
    isplitl [Hb]; · iexact Hb
    isplitl [Ho]; · iexact Ho
    iexact Hs
  iintro Hf
  iapply Hk
  unfold outF
  iapply (Transfers.Flight_mono (EC (F := F)) (VT d L) ?_) $$ Hf
  rw [set_oM, set_bM]
  iintro ⟨Ho, Hb⟩
  isplitl [Ho]
  · iapply (Entails.of_eq (pointsTo_congr (got_write d L X hr h h' hf g))) $$ Ho
  · iexists f; iexact Hb

/-- A copy of a ring buffer out waited for. -/
theorem step_outWait {Q : α → sProp 𝕄} {sp' : Space} {s' : Shape} {e' : EltTy} {srcw : Memref sig (VT d L).2.kind sp' s' e'} {h hsrc hdst} :
    iprop(outF d L X sem p b r ∗ owesR d L O W ∗ mayW d L O)
      ⊢ iprop((iprop(oGot d X b r ∗ bAny d L p ∗ semVal (VT d L, SemLoc.dma sem) 0 ∗ owesR d L O W)
            -∗ wp frame (wpE (defs₀ (F := F)) 𝒱₀ (VT d L) none) Set.univ (k ⟨⟩) Q)
          -∗ wp frame (wpE (defs₀ (F := F)) 𝒱₀ (VT d L) none) Set.univ
              (.op (.waitDma2 sem srcw (oM off h) hsrc hdst) k) Q) := by
  unfold outF
  iintro ⟨Hf, ⟨%W', %hW', HO⟩, Hm⟩ Hk
  iapply (Transfers.wp_waitLocalO (EC (F := F)) 𝒱₀ (VT d L) none (default : HIx 1) (dstw := oM off h) (N := NO) rfl (O := O) (W := W')) $$ [Hf HO Hm]
  · isplitl [Hf]; · iexact Hf
    isplitl [HO]; · iexact HO
    iapply (Transfers.MayWaits.elim (SemLoc.dma sem)) $$ Hm
  iintro ⟨⟨Ho, Hb⟩, Hs, HO⟩
  iapply Hk
  isplitl [Ho]; · iexact Ho
  isplitl [Hb]; · iexact Hb
  isplitl [Hs]; · iexact Hs
  iexists _; isplitr
  · ipureintro; exact recorded (sm := SemLoc.dma sem) hW'
  · iexact HO

end Steps

end Cert.Proof.Unpool

end
-- ==== Proof.Ring.lean ====
/-
  The loop that copies the tile's 2048 rows of `x`: sixty-four chunks of 32 rows through four ring buffers, buffer `p`
  taking the chunks `4 t + p`. What belongs to one buffer is a `Slot`: before trip `k` the copy of its chunk of trip `k` into
  it is under way, its earlier chunks of `out` are written and the others are in hand. A trip takes it to the next one.
-/
module

public import proofs.«01_k».proof.Proof.Steps

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (X : S16x4096x512.Idx → F .f32)

/-- The first of the rows that buffer `p` takes in trip `t`. -/
abbrev row (t p : ℕ) : ℕ := 2048 * (L 0).val + 128 * t + 32 * p
/-- The batch the tile does. -/
abbrev bat : ℕ := (L 1).val

theorem row_le {t p : ℕ} (ht : t < 16) (hp : p < 4) : row L t p + 32 ≤ 4096 := by
  have h : (L 0).val < 2 := (L 0).isLt
  unfold row; omega

/-- The chunks of `out` that buffer `p` wrote in the first `k` trips, and those it writes from trip `k` on. -/
@[irreducible] def gots (p k : ℕ) : sProp 𝕄 := bigSep (Finset.range k) fun t => oGot d X (bat L) (row L t p)
@[irreducible] def anys (p k : ℕ) : sProp 𝕄 := bigSep (Finset.Ico k 16) fun t => oAny (F := F) d (bat L) (row L t p)

theorem gots_zero (p : ℕ) : (BI.emp : sProp 𝕄) ⊢ gots d L X p 0 := by unfold gots; exact Entails.of_eq bigSep_empty.symm
theorem gots_succ (p k : ℕ) : iprop(oGot d X (bat L) (row L k p) ∗ gots d L X p k) ⊢ gots d L X p (k + 1) := by
  unfold gots
  rw [Finset.range_add_one, bigSep_insert Finset.notMem_range_self]
  exact .refl
theorem anys_pop (p : ℕ) {k : ℕ} (hk : k < 16) : anys (F := F) d L p k ⊢ iprop(oAny (F := F) d (bat L) (row L k p) ∗ anys (F := F) d L p (k + 1)) := by
  unfold anys
  rw [show Finset.Ico k 16 = insert k (Finset.Ico (k + 1) 16) by ext; simp only [Finset.mem_insert, Finset.mem_Ico]; omega,
    bigSep_insert (by simp only [Finset.mem_Ico]; omega)]
  exact .refl

/-- A buffer whose chunk of trip `k` is on its way in. -/
@[irreducible] def slotIn (si so : DmaSem sig) (q : PosShare TreeShare) (p k : ℕ) : sProp 𝕄 :=
  iprop(inF d L X si q p (bat L) (row L k p) ∗ semVal (VT d L, SemLoc.dma so) 0 ∗ gots d L X p k ∗ anys (F := F) d L p k)
/-- A buffer whose chunk of trip `k` is on its way out. -/
@[irreducible] def slotOut (si so : DmaSem sig) (q : PosShare TreeShare) (p k : ℕ) : sProp 𝕄 :=
  iprop(outF d L X so p (bat L) (row L k p) ∗ xTok d X q ∗ semVal (VT d L, SemLoc.dma si) 0 ∗ gots d L X p k ∗ anys (F := F) d L p (k + 1))

theorem slotIn_intro {si so : DmaSem sig} {q : PosShare TreeShare} {p : ℕ} :
    iprop(inF d L X si q p (bat L) (row L 0 p) ∗ semVal (VT d L, SemLoc.dma so) 0 ∗ anys (F := F) d L p 0) ⊢ slotIn d L X si so q p 0 := by
  unfold slotIn
  iintro ⟨H1, H2, H3⟩
  isplitl [H1]; · iexact H1
  isplitl [H2]; · iexact H2
  isplitr; · iapply (gots_zero d L X p); iempintro
  iexact H3

/-- An offset's closed form with its row respelt. -/
theorem off_row {off : Fin 3 → ℕ} {b e e' : ℕ} (h : off = ![b, e, 0]) (he : e = e') : off = ![b, e', 0] := he ▸ h

section Steps

variable {α : Type} {si so : DmaSem sig} {q : PosShare TreeShare} {p t : ℕ} {off off' offp offp' offp'' : Fin 3 → ℕ}
  {k : PUnit → Prog (TpuEff nD τ sig (Elt F) Λ₀ (VT d L).2) α} {O : CellTallies nD τ sig (HIx 1)} {W : Waits sig (HIx 1)}

/-- The chunk waited for, and its copy out begun. -/
theorem step_turn {Q : α → sProp 𝕄} {sp' : Space} {s' : Shape} {e' : EltTy} {srcw : Memref sig (VT d L).2.kind sp' s' e'}
    {h h' h'' hsrc hdst hsrc' hdst' hsem'} (ht : t < 16) (hp4 : p < 4) (ho : off = ![bat L, row L t p, 0]) (hp : offp' = ![p, 0, 0]) :
    iprop(slotIn d L X si so q p t ∗ owesR (F := F) d L O W ∗ mayW d L O)
      ⊢ iprop((iprop(slotOut d L X si so q p t ∗ owesR (F := F) d L O W)
            -∗ wp frame (wpE (defs₀ (F := F)) 𝒱₀ (VT d L) none) Set.univ (k ⟨⟩) Q)
          -∗ wp frame (wpE (defs₀ (F := F)) 𝒱₀ (VT d L) none) Set.univ
              (.op (.waitDma2 si srcw (bM offp h') hsrc hdst) fun _ =>
                .op (.enqueueDma (bM offp' h'') (.here (oM off h)) (.dma so) hsrc' hdst' hsem') k) Q) := by
  unfold slotIn slotOut
  iintro ⟨⟨Hf, Hso, Hg, Ha⟩, HO, Hm⟩ Hk
  iapply (step_inWait d L X) $$ [Hf HO Hm]
  · isplitl [Hf]; · iexact Hf
    isplitl [HO]; · iexact HO
    iexact Hm
  iintro ⟨Hb, Hx, Hsi, HO⟩
  ihave Ha' := (anys_pop d L p ht) $$ Ha
  icases Ha' with ⟨Ho, Ha⟩
  iapply (step_out d L X (row_le L ht hp4) ho hp) $$ [Hb Ho Hso]
  · isplitl [Hb]; · iexact Hb
    isplitl [Ho]; · iexact Ho
    iexact Hso
  iintro Hf
  iapply Hk
  isplitr [HO]
  · isplitl [Hf]; · iexact Hf
    isplitl [Hx]; · iexact Hx
    isplitl [Hsi]; · iexact Hsi
    isplitl [Hg]; · iexact Hg
    iexact Ha
  · iexact HO

/-- The copy out waited for, and the copy in of the next trip's chunk begun. -/
theorem step_next {Q : α → sProp 𝕄} {sp' : Space} {s' : Shape} {e' : EltTy} {srcw : Memref sig (VT d L).2.kind sp' s' e'}
    {h h' h'' hsrc hdst hsrc' hdst' hsem'} (ho : off' = ![bat L, row L (t + 1) p, 0]) (hp : offp = ![p, 0, 0]) :
    iprop(slotOut d L X si so q p t ∗ owesR (F := F) d L O W ∗ mayW d L O)
      ⊢ iprop((iprop(slotIn d L X si so q p (t + 1) ∗ owesR (F := F) d L O W)
            -∗ wp frame (wpE (defs₀ (F := F)) 𝒱₀ (VT d L) none) Set.univ (k ⟨⟩) Q)
          -∗ wp frame (wpE (defs₀ (F := F)) 𝒱₀ (VT d L) none) Set.univ
              (.op (.waitDma2 so srcw (oM off h) hsrc hdst) fun _ =>
                .op (.enqueueDma (xM off' h') (.here (bM offp h'')) (.dma si) hsrc' hdst' hsem') k) Q) := by
  unfold slotIn slotOut
  iintro ⟨⟨Hf, Hx, Hsi, Hg, Ha⟩, HO, Hm⟩ Hk
  iapply (step_outWait d L X) $$ [Hf HO Hm]
  · isplitl [Hf]; · iexact Hf
    isplitl [HO]; · iexact HO
    iexact Hm
  iintro ⟨Ho, Hb, Hso, HO⟩
  iapply (step_in d L X ho hp) $$ [Hx Hb Hsi]
  · isplitl [Hx]; · iexact Hx
    isplitl [Hb]; · iexact Hb
    iexact Hsi
  iintro Hf
  iapply Hk
  isplitr [HO]
  · isplitl [Hf]; · iexact Hf
    isplitl [Hso]; · iexact Hso
    isplitl [Ho Hg]
    · iapply (gots_succ d L X p t)
      isplitl [Ho]; · iexact Ho
      iexact Hg
    iexact Ha
  · iexact HO

/-- The first chunk's copy in begun. -/
theorem step_start {Q : α → sProp 𝕄} {h h' hsrc hdst hsem} (ho : off = ![bat L, row L 0 p, 0]) (hp : offp = ![p, 0, 0]) :
    iprop(xTok d X q ∗ bAny d L p ∗ semVal (VT d L, SemLoc.dma si) 0 ∗ semVal (VT d L, SemLoc.dma so) 0 ∗ anys (F := F) d L p 0)
      ⊢ iprop((slotIn d L X si so q p 0 -∗ wp frame (wpE (defs₀ (F := F)) 𝒱₀ (VT d L) none) Set.univ (k ⟨⟩) Q)
          -∗ wp frame (wpE (defs₀ (F := F)) 𝒱₀ (VT d L) none) Set.univ
              (.op (.enqueueDma (xM off h) (.here (bM offp h')) (.dma si) hsrc hdst hsem) k) Q) := by
  iintro ⟨Hx, Hb, Hsi, Hso, Ha⟩ Hk
  iapply (step_in d L X ho hp) $$ [Hx Hb Hsi]
  · isplitl [Hx]; · iexact Hx
    isplitl [Hb]; · iexact Hb
    iexact Hsi
  iintro Hf
  iapply Hk
  iapply (slotIn_intro d L X)
  isplitl [Hf]; · iexact Hf
  isplitl [Hso]; · iexact Hso
  iexact Ha

/-- The last chunk's copy out waited for: all sixteen chunks are written. -/
theorem step_end {Q : α → sProp 𝕄} {sp' : Space} {s' : Shape} {e' : EltTy} {srcw : Memref sig (VT d L).2.kind sp' s' e'} {h hsrc hdst} :
    iprop(slotOut d L X si so q p 15 ∗ owesR (F := F) d L O W ∗ mayW d L O)
      ⊢ iprop((iprop((xTok d X q ∗ bAny d L p ∗ semVal (VT d L, SemLoc.dma si) 0 ∗ semVal (VT d L, SemLoc.dma so) 0 ∗ gots d L X p 16)
              ∗ owesR (F := F) d L O W)
            -∗ wp frame (wpE (defs₀ (F := F)) 𝒱₀ (VT d L) none) Set.univ (k ⟨⟩) Q)
          -∗ wp frame (wpE (defs₀ (F := F)) 𝒱₀ (VT d L) none) Set.univ
              (.op (.waitDma2 so srcw (oM off h) hsrc hdst) k) Q) := by
  unfold slotOut
  iintro ⟨⟨Hf, Hx, Hsi, Hg, -⟩, HO, Hm⟩ Hk
  iapply (step_outWait d L X) $$ [Hf HO Hm]
  · isplitl [Hf]; · iexact Hf
    isplitl [HO]; · iexact HO
    iexact Hm
  iintro ⟨Ho, Hb, Hso, HO⟩
  iapply Hk
  isplitr [HO]
  · isplitl [Hx]; · iexact Hx
    isplitl [Hb]; · iexact Hb
    isplitl [Hsi]; · iexact Hsi
    isplitl [Hso]; · iexact Hso
    iapply (gots_succ d L X p 15)
    isplitl [Ho]; · iexact Ho
    iexact Hg
  · iexact HO

end Steps

/-! ## The loop -/

/-- A slot before trip `k`, and after the last. -/
@[irreducible] def slotAt (si so : DmaSem sig) (q : PosShare TreeShare) (p k : ℕ) : sProp 𝕄 :=
  if k < 16 then slotIn d L X si so q p k else slotOut d L X si so q p 15

theorem slotAt_lt {si so : DmaSem sig} {q : PosShare TreeShare} {p k : ℕ} (hk : k < 16) :
    slotAt d L X si so q p k = slotIn d L X si so q p k := by unfold slotAt; exact if_pos hk
theorem slotAt_end {si so : DmaSem sig} {q : PosShare TreeShare} {p : ℕ} :
    slotAt d L X si so q p 16 = slotOut d L X si so q p 15 := by unfold slotAt; exact if_neg (by decide)

/-- There is a chunk to fetch after every trip but the last. -/
theorem cond1_lt : ∀ k : Fin k0_t1_loop.trips, k.val < 15 → k0_cond1 k = 1#1 := by decide +kernel
theorem cond2_lt : ∀ k : Fin k0_t1_loop.trips, k.val < 15 → k0_cond2 k = 1#1 := by decide +kernel
theorem cond3_lt : ∀ k : Fin k0_t1_loop.trips, k.val < 15 → k0_cond3 k = 1#1 := by decide +kernel
theorem cond4_lt : ∀ k : Fin k0_t1_loop.trips, k.val < 15 → k0_cond4 k = 1#1 := by decide +kernel
theorem cond1_end : ∀ k : Fin k0_t1_loop.trips, ¬ k.val < 15 → ¬ k0_cond1 k = 1#1 := by decide +kernel
theorem cond2_end : ∀ k : Fin k0_t1_loop.trips, ¬ k.val < 15 → ¬ k0_cond2 k = 1#1 := by decide +kernel
theorem cond3_end : ∀ k : Fin k0_t1_loop.trips, ¬ k.val < 15 → ¬ k0_cond3 k = 1#1 := by decide +kernel
theorem cond4_end : ∀ k : Fin k0_t1_loop.trips, ¬ k.val < 15 → ¬ k0_cond4 k = 1#1 := by decide +kernel

section
variable (O : CellTallies nD τ sig (HIx 1)) (W : Waits sig (HIx 1)) (qs : Fin 4 → PosShare TreeShare)
  (a7 a8 a9 a10 a11 a12 a13 a14 a15 a16 : DmaSems sig S_)

/-- The four slots before trip `k`. -/
def ringAt (k : ℕ) : sProp 𝕄 :=
  iprop(slotAt d L X a7.sem a11.sem (qs 0) 0 k ∗ slotAt d L X a8.sem a12.sem (qs 1) 1 k ∗ slotAt d L X a9.sem a13.sem (qs 2) 2 k
    ∗ slotAt d L X a10.sem a14.sem (qs 3) 3 k ∗ owesR (F := F) d L O W ∗ mayW d L O)

/-- A trip of the loop. -/
theorem ring_trip (v0 : BitVec 32) (k : Fin k0_t1_loop.trips) {h2 h3 h4 h5 h6} :
    ringAt d L X O W qs a7 a8 a9 a10 a11 a12 a13 a14 k.val
      ⊢ wp frame (wpE (defs₀ (F := F)) 𝒱₀ (VT d L) none) Set.univ
          (k0_t1_body (F := F) L xV h2 oV h3 bV h4 loV h5 hiV h6 a7 a8 a9 a10 a11 a12 a13 a14 a15 a16 v0 k ⟨⟩)
          fun _ => ringAt d L X O W qs a7 a8 a9 a10 a11 a12 a13 a14 (k.val + 1) := by
  have hk : k.val < 16 := Nat.lt_of_lt_of_le k.isLt k0_t1_abs.2.1
  have e0 : k0_off5 L k 0#32 = ![bat L, row L k.val 0, 0] := k0_off5_eq L k 0
  have e1 : k0_off5 L k 1#32 = ![bat L, row L k.val 1, 0] := k0_off5_eq L k 1
  have e2 : k0_off5 L k 2#32 = ![bat L, row L k.val 2, 0] := k0_off5_eq L k 2
  have e3 : k0_off5 L k 3#32 = ![bat L, row L k.val 3, 0] := k0_off5_eq L k 3
  have f0 : k0_off7 L k = ![bat L, row L (k.val + 1) 0, 0] := off_row (k0_off7_eq L k) (by unfold row; omega)
  have f1 : k0_off9 L k = ![bat L, row L (k.val + 1) 1, 0] := off_row (k0_off9_eq L k) (by unfold row; omega)
  have f2 : k0_off11 L k = ![bat L, row L (k.val + 1) 2, 0] := off_row (k0_off11_eq L k) (by unfold row; omega)
  have f3 : k0_off13 L k = ![bat L, row L (k.val + 1) 3, 0] := off_row (k0_off13_eq L k) (by unfold row; omega)
  unfold ringAt
  rw [slotAt_lt d L X hk, slotAt_lt d L X hk, slotAt_lt d L X hk, slotAt_lt d L X hk]
  by_cases hl : k.val < 15
  · rw [slotAt_lt d L X (by omega : k.val + 1 < 16), slotAt_lt d L X (by omega : k.val + 1 < 16), slotAt_lt d L X (by omega : k.val + 1 < 16),
      slotAt_lt d L X (by omega : k.val + 1 < 16)]
    simp (proj := false) only [k0_t1_body, k0_part1_eq_skeleton, k0_part2_eq_skeleton, k0_part3_eq_skeleton, k0_part1_skel, k0_part2_skel,
      k0_part3_skel, Prog.lift, Prog.bind_op, Prog.bind_ret, Prog.pure_eq_ret, Prog.bind_assoc, cond1_lt k hl, cond2_lt k hl, cond3_lt k hl,
      cond4_lt k hl, ↓reduceDIte]
    iintro ⟨H0, H1, H2, H3, HO, #Hm⟩
    iapply (step_turn d L X hk (by decide) e0 rfl) $$ [H0 HO]
    · isplitl [H0]; · iexact H0
      isplitl [HO]; · iexact HO
      iexact Hm
    iintro ⟨H0, HO⟩
    iapply (step_turn d L X hk (by decide) e1 rfl) $$ [H1 HO]
    · isplitl [H1]; · iexact H1
      isplitl [HO]; · iexact HO
      iexact Hm
    iintro ⟨H1, HO⟩
    iapply (step_turn d L X hk (by decide) e2 rfl) $$ [H2 HO]
    · isplitl [H2]; · iexact H2
      isplitl [HO]; · iexact HO
      iexact Hm
    iintro ⟨H2, HO⟩
    iapply (step_turn d L X hk (by decide) e3 rfl) $$ [H3 HO]
    · isplitl [H3]; · iexact H3
      isplitl [HO]; · iexact HO
      iexact Hm
    iintro ⟨H3, HO⟩
    iapply (step_next d L X f0 rfl) $$ [H0 HO]
    · isplitl [H0]; · iexact H0
      isplitl [HO]; · iexact HO
      iexact Hm
    iintro ⟨H0, HO⟩
    iapply (step_next d L X f1 rfl) $$ [H1 HO]
    · isplitl [H1]; · iexact H1
      isplitl [HO]; · iexact HO
      iexact Hm
    iintro ⟨H1, HO⟩
    iapply (step_next d L X f2 rfl) $$ [H2 HO]
    · isplitl [H2]; · iexact H2
      isplitl [HO]; · iexact HO
      iexact Hm
    iintro ⟨H2, HO⟩
    iapply (step_next d L X f3 rfl) $$ [H3 HO]
    · isplitl [H3]; · iexact H3
      isplitl [HO]; · iexact HO
      iexact Hm
    iintro ⟨H3, HO⟩
    rw [wp_ret]
    imodintro
    isplitl [H0]; · iexact H0
    isplitl [H1]; · iexact H1
    isplitl [H2]; · iexact H2
    isplitl [H3]; · iexact H3
    isplitl [HO]; · iexact HO
    iexact Hm
  · rw [show k.val + 1 = 16 by omega, slotAt_end, slotAt_end, slotAt_end, slotAt_end]
    have hk' : k.val = 15 := by omega
    simp (proj := false) only [k0_t1_body, k0_part1_eq_skeleton, k0_part2_eq_skeleton, k0_part3_eq_skeleton, k0_part1_skel, k0_part2_skel,
      k0_part3_skel, Prog.lift, Prog.bind_op, Prog.bind_ret, Prog.pure_eq_ret, Prog.bind_assoc, cond1_end k hl, cond2_end k hl, cond3_end k hl,
      cond4_end k hl, ↓reduceDIte]
    iintro ⟨H0, H1, H2, H3, HO, #Hm⟩
    iapply (step_turn d L X hk (by decide) e0 rfl) $$ [H0 HO]
    · isplitl [H0]; · iexact H0
      isplitl [HO]; · iexact HO
      iexact Hm
    iintro ⟨H0, HO⟩
    iapply (step_turn d L X hk (by decide) e1 rfl) $$ [H1 HO]
    · isplitl [H1]; · iexact H1
      isplitl [HO]; · iexact HO
      iexact Hm
    iintro ⟨H1, HO⟩
    iapply (step_turn d L X hk (by decide) e2 rfl) $$ [H2 HO]
    · isplitl [H2]; · iexact H2
      isplitl [HO]; · iexact HO
      iexact Hm
    iintro ⟨H2, HO⟩
    iapply (step_turn d L X hk (by decide) e3 rfl) $$ [H3 HO]
    · isplitl [H3]; · iexact H3
      isplitl [HO]; · iexact HO
      iexact Hm
    iintro ⟨H3, HO⟩
    rw [wp_ret, hk']
    imodintro
    isplitl [H0]; · iexact H0
    isplitl [H1]; · iexact H1
    isplitl [H2]; · iexact H2
    isplitl [H3]; · iexact H3
    isplitl [HO]; · iexact HO
    iexact Hm

end

end Cert.Proof.Unpool

end
-- ==== Proof.Rows.lean ====
/-
  The loop that makes the tile's 32 rows of the tail: `lo` and `hi` are two blocks of `x` in the tile's memory, and the
  loop leaves in `lo` half their sum, a row a trip, sixteen columns at a time. Between two stores `lo` is `mid lo hi r c`:
  made on the rows below `r` and, in row `r`, on the columns below `c`. One lemma makes sixteen columns; a trip is it
  thirty-two times.
-/
module

public import proofs.«01_k».proof.Proof.Base

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- Half the sum of two blocks, element by element. -/
def made (lo hi : S32x512.Idx → F .f32) : S32x512.Idx → F .f32 := fun j => halfSum (lo j) (hi j)

/-- `lo` with the rows below `r` made and, in row `r`, the columns below `c`. -/
def mid (lo hi : S32x512.Idx → F .f32) (r c : ℕ) : S32x512.Idx → F .f32 := fun j =>
  if (j 0).val < r ∨ ((j 0).val = r ∧ (j 1).val < c) then halfSum (lo j) (hi j) else lo j

theorem mid_start (lo hi : S32x512.Idx → F .f32) : mid lo hi 0 0 = lo := by
  funext j; unfold mid; rw [if_neg (by omega)]
/-- A row is made when its 512 columns are. -/
theorem mid_row (lo hi : S32x512.Idx → F .f32) (r : ℕ) : mid lo hi r 512 = mid lo hi (r + 1) 0 := by
  funext j
  have h1 : (j 1).val < 512 := (j 1).isLt
  unfold mid
  exact if_congr (by omega) rfl rfl
theorem mid_end (lo hi : S32x512.Idx → F .f32) : mid lo hi k0_t2_loop.trips 0 = made lo hi := by
  funext j
  have h0 : (j 0).val < 32 := (j 0).isLt
  rw [show k0_t2_loop.trips = 32 by decide]
  unfold mid made; rw [if_pos (.inl h0)]

/-- Half the sum of two groups of sixteen columns, as the kernel computes it. -/
def pay (u v : Vec F S1x16 .f32) : FVec F S1x16 .f32 :=
  shapeCast S1x16 (mulf (broadcast S16 (Scalar.ofBits .f32 0x3F000000#32)) (addf (shapeCast S16 u shapeCasts_S1x16_S16 : FVec F S16 .f32) (shapeCast S16 v shapeCasts_S1x16_S16))) shapeCasts_S16_S1x16

theorem pay_apply (u v : Vec F S1x16 .f32) (y : S1x16.Idx) : pay u v y = halfSum (u y) (v y) := by
  have e : ∀ w : Vec F S1x16 .f32, shapeCast S16 w shapeCasts_S1x16_S16 (Shape.reshapeEquiv shapeCasts_S16_S1x16 y) = w y := fun w =>
    congrArg w ((Shape.reshapeEquiv_reshapeEquiv _ _ y).trans (Shape.reshapeEquiv_self _ y))
  show FloatOps.mulf _ (FloatOps.addf (shapeCast S16 u shapeCasts_S1x16_S16 (Shape.reshapeEquiv shapeCasts_S16_S1x16 y))
    (shapeCast S16 v shapeCasts_S1x16_S16 (Shape.reshapeEquiv shapeCasts_S16_S1x16 y))) = _
  rw [e, e]; rfl

/-- Sixteen columns of row `r`, as the kernel addresses them. -/
abbrev cols (off : Fin 2 → ℕ) (h : ∀ a, off a + S1x16.size a ≤ S32x512.size a) : Rect S32x512 := Rect.unit (s := S32x512) off S1x16.size h

theorem mem_cols {r c : ℕ} {h} {j : S32x512.Idx} : j ∈ (cols ![r, c] h).set ↔ (j 0).val = r ∧ c ≤ (j 1).val ∧ (j 1).val < c + 16 := by
  rw [Rect.mem_set_unit]
  constructor
  · intro H
    have h0 := H 0; have h1 := H 1
    simp at h0 h1
    omega
  · rintro ⟨h0, h1, h2⟩ a
    match a with
    | 0 => simp; omega
    | 1 => simp; omega

/-- What the store of sixteen columns leaves. -/
theorem mid_write (lo hi : S32x512.Idx → F .f32) {r c : ℕ} (h) :
    (loV.access (cols ![r, c] h)).write (Elt F) (mid lo hi r c)
        (pay ((loV.access (cols ![r, c] h)).read (Elt F) (mid lo hi r c)) ((hiV.access (cols ![r, c] h)).read (Elt F) hi)) Finset.univ
      = mid lo hi r (c + 16) := by
  funext j
  by_cases hj : j ∈ (cols ![r, c] h).set
  · obtain ⟨h0, h1, h2⟩ := mem_cols.mp hj
    rw [← Rect.map_emb_univ] at hj
    obtain ⟨y, -, rfl⟩ := Finset.mem_map.mp hj
    refine (View.write_emb_of_mem (v := loV.access (cols ![r, c] h)) _ _ (Finset.mem_univ y)).trans ?_
    show pay _ _ y = _
    rw [pay_apply]
    show halfSum (mid lo hi r c ((cols ![r, c] h).emb y)) (hi ((cols ![r, c] h).emb y)) = mid lo hi r (c + 16) ((cols ![r, c] h).emb y)
    generalize (cols ![r, c] h).emb y = j at h0 h1 h2
    unfold mid
    rw [if_neg (by omega), if_pos (by omega)]
  · rw [View.write_of_not_mem (v := loV.access (cols ![r, c] h)) _ _ _ (by
      show j ∉ (loV.access (cols ![r, c] h)).set
      rw [show (loV.access (cols ![r, c] h)).set = (cols ![r, c] h).set from View.set_slice_whole _ _]; exact hj)]
    unfold mid
    refine if_congr ?_ rfl rfl
    have hn : ¬ ((j 0).val = r ∧ c ≤ (j 1).val ∧ (j 1).val < c + 16) := fun e => hj (mem_cols.mpr e)
    omega

section Steps

variable {α : Type}

abbrev loAt (f : S32x512.Idx → F .f32) : sProp 𝕄 := loLoc d L ↦{fullShare} (f : Buf (Elt F) (loLoc d L))
abbrev hiAt (f : S32x512.Idx → F .f32) : sProp 𝕄 := hiLoc d L ↦{fullShare} (f : Buf (Elt F) (hiLoc d L))

/-- Sixteen columns made: both groups loaded, `lo`'s once more, half their sum stored over it. -/
theorem step_cols {Q : α → sProp 𝕄} {lo hi : S32x512.Idx → F .f32} {r c : ℕ} {off : Fin 2 → ℕ} (ho : off = ![r, c])
    {pay' : Vec F S1x16 .f32 → Vec F S1x16 .f32 → FVec F S1x16 .f32} (hp : ∀ u v, pay' u v = pay u v)
    {h : ∀ a, off a + S1x16.size a ≤ S32x512.size a} {hl hl'' : loV.view.LoadsAt (cols off h).toLoadRect}
    {hl' : hiV.view.LoadsAt (cols off h).toLoadRect} {hs : (loV.access (cols off h)).Stores Finset.univ}
    {hm : (Finset.univ : Finset (cols off h).shape.Idx) = Finset.univ ∨ ∀ a, (cols off h).stride a = 1}
    {k : PUnit → Prog (TpuEff nD τ sig (Elt F) Λ₀ (VT d L).2) α} :
    iprop(loAt d L (mid lo hi r c) ∗ hiAt d L hi)
      ⊢ iprop((iprop(loAt d L (mid lo hi r (c + 16)) ∗ hiAt d L hi) -∗ wp frame (wpE (defs₀ (F := F)) 𝒱₀ (VT d L) none) Set.univ (k ⟨⟩) Q)
          -∗ wp frame (wpE (defs₀ (F := F)) 𝒱₀ (VT d L) none) Set.univ
              (.op (.load loV (cols off h).toLoadRect hl) fun u => .op (.load hiV (cols off h).toLoadRect hl') fun v =>
                .op (.load loV (cols off h).toLoadRect hl'') fun _ => .op (.store loV (cols off h) (pay' u v) Finset.univ hs hm) k) Q) := by
  subst ho
  obtain rfl : pay' = pay := funext fun u => funext fun v => hp u v
  iintro ⟨Hlo, Hhi⟩ Hk
  iapply (wp_load_rect 𝒱₀ (VT d L) none Set.univ (m := loV) (r := cols ![r, c] h) (S := Finset.univ) (f := mid lo hi r c) (Finset.subset_univ _)) $$ Hlo
  iintro Hlo
  iapply (wp_load_rect 𝒱₀ (VT d L) none Set.univ (m := hiV) (r := cols ![r, c] h) (S := Finset.univ) (f := hi) (Finset.subset_univ _)) $$ Hhi
  iintro Hhi
  iapply (wp_load_rect 𝒱₀ (VT d L) none Set.univ (m := loV) (r := cols ![r, c] h) (S := Finset.univ) (f := mid lo hi r c) (Finset.subset_univ _)) $$ Hlo
  iintro Hlo
  iapply (wp_store 𝒱₀ (VT d L) none Set.univ (m := loV) (r := cols ![r, c] h) (S := Finset.univ) (f := mid lo hi r c) (Finset.subset_univ _)) $$ Hlo
  iintro Hlo
  iapply Hk
  isplitl [Hlo]
  · iapply (Entails.of_eq (congrArg (loAt d L) (mid_write lo hi h))) $$ Hlo
  · iexact Hhi

/-- A trip of the loop makes one row. -/
theorem row_trip (lo hi : S32x512.Idx → F .f32) (k : Fin k0_t2_loop.trips) {h2 h3 h4 h5 h6} (a7 a8 a9 a10 a11 a12 a13 a14 a15 a16 : DmaSems sig S_) :
    iprop(loAt d L (mid lo hi k.val 0) ∗ hiAt d L hi)
      ⊢ wp frame (wpE (defs₀ (F := F)) 𝒱₀ (VT d L) none) Set.univ
          (k0_t2_body (F := F) L xV h2 oV h3 bV h4 loV h5 hiV h6 a7 a8 a9 a10 a11 a12 a13 a14 a15 a16 k ⟨⟩)
          fun _ => iprop(loAt d L (mid lo hi (k.val + 1) 0) ∗ hiAt d L hi) := by
  simp (proj := false) only [k0_t2_body, k0_part4_eq_skeleton, k0_part5_eq_skeleton, k0_part6_eq_skeleton, k0_part7_eq_skeleton, k0_part8_eq_skeleton,
    k0_part9_eq_skeleton, k0_part10_eq_skeleton, k0_part11_eq_skeleton, k0_part12_eq_skeleton, k0_part4_skel, k0_part5_skel, k0_part6_skel,
    k0_part7_skel, k0_part8_skel, k0_part9_skel, k0_part10_skel, k0_part11_skel, k0_part12_skel, Prog.lift, Prog.bind_op, Prog.bind_ret,
    Prog.pure_eq_ret, Prog.bind_assoc]
  iintro Hm
  iterate 32
    (iapply (step_cols d L (r := k.val) (ClosedOff.eq (off := _)) (fun _ _ => rfl)) $$ Hm; iintro Hm)
  rw [wp_ret]
  rw [← mid_row]
  imodintro
  iexact Hm

end Steps

end Cert.Proof.Unpool

end
-- ==== Proof.Tail.lean ====
/-
  The steps of the tail: two blocks of `x` fetched into the tile's memory on one semaphore, both waited for before either
  is read; and the block made from them copied out to `out`.
-/
module

public import proofs.«01_k».proof.Proof.Rows
public import proofs.«01_k».proof.Proof.Steps

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (X : S16x4096x512.Idx → F .f32)

/-- `f` is rows `r` to `r + 31` of batch `b` of `x`. -/
def Block (b r : ℕ) (f : S32x512.Idx → F .f32) : Prop :=
  ∀ (y : S32x512.Idx) (i : S16x4096x512.Idx), (i 0).val = b → (i 1).val = r + (unsq y 1).val → (i 2).val = (unsq y 2).val → f y = X i

theorem block_read {b r : ℕ} (h) : Block X b r ((xM ![b, r, 0] h).view.read (Elt F) X) := by
  intro y i h0 h1 h2
  obtain ⟨f0, f1, f2⟩ := xM_emb h y
  rw [View.read_apply]
  exact congrArg X (xIx_eq (f0.trans h0.symm) (f1.trans h1.symm) (f2.trans h2.symm))

/-- A buffer a block of `x` was written to holds it. -/
theorem block_write {b r : ℕ} (M : Memref sig .scVector .vmem S32x512 .f32) (h) (f : Buf (Elt F) (M.view.loc (VT d L))) :
    Block X b r (M.view.read (Elt F) (M.view.write (Elt F) f ((xM ![b, r, 0] h).view.read (Elt F) X) Finset.univ)) := by
  rw [View.read_write_univ]
  exact block_read X h

/-- Half the sum of two blocks 2048 rows apart, written to `out`, is `out`'s value there. -/
theorem got_made {b r : ℕ} (hr : r + 32 ≤ 64) (hb : b < 16) (h : ∀ a, (![b, r + 4096, 0] : Fin 3 → ℕ) a + S1x32x512.size a ≤ S16x4160x512.size a)
    {lo hi : S32x512.Idx → F .f32} (hl : Block X b r lo) (hh : Block X b (r + 2048) hi)
    (g : Buf (Elt F) (oLoc d)) :
    ∀ o ∈ orows b (r + 4096), ((oM ![b, r + 4096, 0] h).view.write (Elt F) g (made lo hi : S32x512.Idx → Elt F .f32) Finset.univ : S16x4160x512.Idx → F .f32) o = G X o := by
  intro o ho
  have hm : o ∈ (oM ![b, r + 4096, 0] h).view.set := by rw [set_oM]; exact ho
  obtain ⟨y, -, rfl⟩ := Finset.mem_map.mp hm
  rw [View.write_emb_of_mem _ _ (Finset.mem_univ y)]
  obtain ⟨f0, f1, f2⟩ := oM_emb h y
  have h1 : (unsq y 1).val < 32 := (unsq y 1).isLt
  have h2 : (unsq y 2).val < 512 := (unsq y 2).isLt
  set o' : S16x4160x512.Idx := (oM ![b, r + 4096, 0] h).view.emb y with ho'
  rw [G_made (i := xIx b (r + (unsq y 1).val) (unsq y 2).val hb (by omega) h2)
    (j := xIx b (r + 2048 + (unsq y 1).val) (unsq y 2).val hb (by omega) h2) X f0.symm
    (show r + (unsq y 1).val + 4096 = _ by rw [f1]; omega) f2.symm f0.symm (show r + 2048 + (unsq y 1).val = r + (unsq y 1).val + 2048 by omega) f2.symm]
  exact congrArg₂ halfSum (hl y _ rfl rfl rfl) (hh y _ rfl rfl rfl)

/-- A buffer of the tile at whatever it holds, and at a block of `x`. -/
abbrev mAny (M : Memref sig .scVector .vmem S32x512 .f32) : sProp 𝕄 :=
  iprop(∃ f : Buf (Elt F) (M.view.loc (VT d L)), M.view.loc (VT d L) ↦[M.view.set]{fullShare} f)
abbrev mHas (M : Memref sig .scVector .vmem S32x512 .f32) (b r : ℕ) : sProp 𝕄 :=
  iprop(∃ f : Buf (Elt F) (M.view.loc (VT d L)), ⌜Block X b r (M.view.read (Elt F) f)⌝ ∗ M.view.loc (VT d L) ↦[M.view.set]{fullShare} f)

/-- What the two fetches deliver: `lo` with one block, `hi` with the block 2048 rows further on. -/
@[irreducible] def fetched (q q' : PosShare TreeShare) (b r : ℕ) (t : Fin 2) : sProp 𝕄 :=
  if t = 0 then iprop(mHas d L X loV b r ∗ xOn d X q (xrows b r)) else iprop(mHas d L X hiV b (r + 2048) ∗ xOn d X q' (xrows b (r + 2048)))

instance fetched_storable (q q' : PosShare TreeShare) (b r : ℕ) (t : Fin 2) : BI.Storable (upEmb : UEmb _ 𝕄) (fetched d L X q q' b r t) := by
  unfold fetched
  split <;> infer_instance

theorem fetched_zero {q q' : PosShare TreeShare} {b r : ℕ} :
    iprop(mHas d L X loV b r ∗ xOn d X q (xrows b r)) = fetched d L X q q' b r 0 := by unfold fetched; exact (if_pos rfl).symm
theorem fetched_one {q q' : PosShare TreeShare} {b r : ℕ} :
    iprop(mHas d L X hiV b (r + 2048) ∗ xOn d X q' (xrows b (r + 2048))) = fetched d L X q q' b r 1 := by
  unfold fetched; exact (if_neg (by decide)).symm

/-- What a fetch pays its semaphore. -/
abbrev NT : ℕ := loV.view.dmaCredit
theorem NT_pos : 0 < NT := View.dmaCredit_pos _ (show 0 < S32x512.numel by decide)

/-- The fetches, `j` begun and `u` paid for. -/
@[irreducible] def fetching (sem : DmaSem sig) (q q' : PosShare TreeShare) (b r j u : ℕ) : sProp 𝕄 :=
  Transfers.Batch (EC (F := F)) (VT d L) (.dma sem) (default : HIx 1) NT (fetched d L X q q' b r) j u

theorem fetching_start {sem : DmaSem sig} {q q' : PosShare TreeShare} {b r : ℕ} :
    (semVal (VT d L, SemLoc.dma sem) 0 : sProp 𝕄) ⊢ |={Set.univ}=> fetching d L X sem q q' b r 0 0 := by
  unfold fetching
  exact Transfers.batch_alloc' (EC (F := F)) (VT d L) (default : HIx 1) NT (fetched d L X q q' b r)

section Steps

variable {α : Type} {sem : DmaSem sig} {q q' : PosShare TreeShare} {b r : ℕ} {off : Fin 3 → ℕ}
  {k : PUnit → Prog (TpuEff nD τ sig (Elt F) Λ₀ (VT d L).2) α} {O : CellTallies nD τ sig (HIx 1)} {W : Waits sig (HIx 1)}

/-- The first fetch begun, into `lo`. -/
theorem step_lo {Q : α → sProp 𝕄} {h hsrc hdst hsem} (ho : off = ![b, r, 0]) :
    iprop(xTok d X q ∗ mAny (F := F) d L loV ∗ fetching d L X sem q q' b r 0 0)
      ⊢ iprop((iprop(fetching d L X sem q q' b r 1 0 ∗ xOn d X q (Finset.univ \ xrows b r))
            -∗ wp frame (wpE (defs₀ (F := F)) 𝒱₀ (VT d L) none) Set.univ (k ⟨⟩) Q)
          -∗ wp frame (wpE (defs₀ (F := F)) 𝒱₀ (VT d L) none) Set.univ
              (.op (.enqueueDma (xM off h) (.here loV) (.dma sem) hsrc hdst hsem) k) Q) := by
  subst ho
  unfold fetching
  iintro ⟨Hx, ⟨%f, Hb⟩, HB⟩ Hk
  ihave Hx' := ((pointsTo_split_subset (Finset.subset_univ (xrows b r))).1) $$ Hx
  icases Hx' with ⟨Hx, Hr⟩
  iapply (Transfers.wp_dmaBatch (EC (F := F)) 𝒱₀ (VT d L) none (default : HIx 1) NT rfl (Finset.Subset.refl _) (show 0 < 2 by decide)
      (Nat.zero_le _) (q := q) (fs := X) (fd := f) (D := fetched d L X q q' b r) ?_) $$ [Hx Hb HB]
  · rw [set_xM]
    show _ ⊢ fetched d L X q q' b r 0
    rw [← fetched_zero]
    iintro ⟨Hb, Hx⟩
    isplitl [Hb]
    · iexists _; isplitr
      · ipureintro
        exact block_write d L X loV h f
      · iexact Hb
    · iexact Hx
  · rw [set_xM]
    isplitl [Hx]; · iexact Hx
    isplitl [Hb]; · iexact Hb
    iexact HB
  iintro HB
  iapply Hk
  isplitl [HB]; · iexact HB
  iexact Hr

/-- The second fetch begun, into `hi`. -/
theorem step_hi {Q : α → sProp 𝕄} {h hsrc hdst hsem} (ho : off = ![b, r + 2048, 0]) :
    iprop(xTok d X q' ∗ mAny (F := F) d L hiV ∗ fetching d L X sem q q' b r 1 0)
      ⊢ iprop((iprop(fetching d L X sem q q' b r 2 0 ∗ xOn d X q' (Finset.univ \ xrows b (r + 2048)))
            -∗ wp frame (wpE (defs₀ (F := F)) 𝒱₀ (VT d L) none) Set.univ (k ⟨⟩) Q)
          -∗ wp frame (wpE (defs₀ (F := F)) 𝒱₀ (VT d L) none) Set.univ
              (.op (.enqueueDma (xM off h) (.here hiV) (.dma sem) hsrc hdst hsem) k) Q) := by
  subst ho
  unfold fetching
  iintro ⟨Hx, ⟨%f, Hb⟩, HB⟩ Hk
  ihave Hx' := ((pointsTo_split_subset (Finset.subset_univ (xrows b (r + 2048)))).1) $$ Hx
  icases Hx' with ⟨Hx, Hr⟩
  iapply (Transfers.wp_dmaBatch (EC (F := F)) 𝒱₀ (VT d L) none (default : HIx 1) NT rfl (Finset.Subset.refl _) (show 1 < 2 by decide)
      (Nat.zero_le _) (q := q') (fs := X) (fd := f) (D := fetched d L X q q' b r) ?_) $$ [Hx Hb HB]
  · rw [set_xM]
    show _ ⊢ fetched d L X q q' b r 1
    rw [← fetched_one]
    iintro ⟨Hb, Hx⟩
    isplitl [Hb]
    · iexists _; isplitr
      · ipureintro
        exact block_write d L X hiV h f
      · iexact Hb
    · iexact Hx
  · rw [set_xM]
    isplitl [Hx]; · iexact Hx
    isplitl [Hb]; · iexact Hb
    iexact HB
  iintro HB
  iapply Hk
  isplitl [HB]; · iexact HB
  iexact Hr

/-- The first wait on the fetches: neither block may be read yet. -/
theorem step_wait {Q : α → sProp 𝕄} {sp' : Space} {s' : Shape} {e' : EltTy} {srcw : Memref sig (VT d L).2.kind sp' s' e'} {hsrc hdst} :
    iprop(fetching d L X sem q q' b r 2 0 ∗ owesR (F := F) d L O W ∗ mayW d L O)
      ⊢ iprop((iprop(fetching d L X sem q q' b r 2 (0 + NT) ∗ owesR (F := F) d L O W)
            -∗ wp frame (wpE (defs₀ (F := F)) 𝒱₀ (VT d L) none) Set.univ (k ⟨⟩) Q)
          -∗ wp frame (wpE (defs₀ (F := F)) 𝒱₀ (VT d L) none) Set.univ (.op (.waitDma2 sem srcw loV hsrc hdst) k) Q) := by
  unfold fetching
  iintro ⟨HB, ⟨%W', %hW', HO⟩, Hm⟩ Hk
  iapply (Transfers.wp_waitBatchO (EC (F := F)) 𝒱₀ (VT d L) none (default : HIx 1) (dstw := loV) (N := NT) rfl
    (show 0 + NT < NT * 2 by have := NT_pos; omega) (O := O) (W := W')) $$ [HB HO Hm]
  · isplitl [HB]; · iexact HB
    isplitl [HO]; · iexact HO
    iapply (Transfers.MayWaits.elim (SemLoc.dma sem)) $$ Hm
  iintro ⟨HB, HO⟩
  iapply Hk
  isplitl [HB]; · iexact HB
  iexists _; isplitr
  · ipureintro; exact recorded (sm := SemLoc.dma sem) hW'
  · iexact HO

/-- The second wait: both blocks are in. -/
theorem step_waitLast {Q : α → sProp 𝕄} {sp' : Space} {s' : Shape} {e' : EltTy} {srcw : Memref sig (VT d L).2.kind sp' s' e'} {hsrc hdst} :
    iprop(fetching d L X sem q q' b r 2 (0 + NT) ∗ owesR (F := F) d L O W ∗ mayW d L O)
      ⊢ iprop((iprop((mHas d L X loV b r ∗ xOn d X q (xrows b r)) ∗ (mHas d L X hiV b (r + 2048) ∗ xOn d X q' (xrows b (r + 2048)))
              ∗ semVal (VT d L, SemLoc.dma sem) 0 ∗ owesR (F := F) d L O W)
            -∗ wp frame (wpE (defs₀ (F := F)) 𝒱₀ (VT d L) none) Set.univ (k ⟨⟩) Q)
          -∗ wp frame (wpE (defs₀ (F := F)) 𝒱₀ (VT d L) none) Set.univ (.op (.waitDma2 sem srcw hiV hsrc hdst) k) Q) := by
  unfold fetching
  iintro ⟨HB, ⟨%W', %hW', HO⟩, Hm⟩ Hk
  iapply (Transfers.wp_waitBatchLastO (EC (F := F)) 𝒱₀ (VT d L) none (default : HIx 1) (dstw := hiV) (N := NT) rfl NT_pos
    (show 0 + NT + NT = NT * 2 by omega) (O := O) (W := W')) $$ [HB HO Hm]
  · isplitl [HB]; · iexact HB
    isplitl [HO]; · iexact HO
    iapply (Transfers.MayWaits.elim (SemLoc.dma sem)) $$ Hm
  iintro ⟨HD, Hs, HO⟩
  ihave HD' := (show bigSep Finset.univ (fetched d L X q q' b r) ⊢ iprop(fetched d L X q q' b r 0 ∗ fetched d L X q q' b r 1) from
    Entails.of_eq (bigSep_fin_two _)) $$ HD
  icases HD' with ⟨Hl, Hh⟩
  iapply Hk
  isplitl [Hl]
  · iapply (Entails.of_eq (fetched_zero d L X).symm) $$ Hl
  isplitl [Hh]
  · iapply (Entails.of_eq (fetched_one d L X).symm) $$ Hh
  isplitl [Hs]; · iexact Hs
  iexists _; isplitr
  · ipureintro; exact recorded (sm := SemLoc.dma sem) hW'
  · iexact HO

/-- The made block copied out, and the copy waited for. -/
theorem step_store {Q : α → sProp 𝕄} {sp' : Space} {s' : Shape} {e' : EltTy} {srcw : Memref sig (VT d L).2.kind sp' s' e'}
    {lo hi : S32x512.Idx → F .f32} {off' : Fin 3 → ℕ} {h h' hsrc hdst hsem hsrc' hdst'}
    (hr : r + 32 ≤ 64) (hb : b < 16) (hl : Block X b r lo) (hh : Block X b (r + 2048) hi) (ho : off = ![b, r + 4096, 0]) :
    iprop(loAt d L (made lo hi) ∗ oAny (F := F) d b (r + 4096) ∗ semVal (VT d L, SemLoc.dma sem) 0 ∗ owesR (F := F) d L O W ∗ mayW d L O)
      ⊢ iprop((iprop((∃ f, loAt d L f) ∗ oGot d X b (r + 4096) ∗ semVal (VT d L, SemLoc.dma sem) 0 ∗ owesR (F := F) d L O W)
            -∗ wp frame (wpE (defs₀ (F := F)) 𝒱₀ (VT d L) none) Set.univ (k ⟨⟩) Q)
          -∗ wp frame (wpE (defs₀ (F := F)) 𝒱₀ (VT d L) none) Set.univ
              (.op (.enqueueDma loV (.here (oM off h)) (.dma sem) hsrc hdst hsem) fun _ => .op (.waitDma2 sem srcw (oM off' h') hsrc' hdst') k) Q) := by
  subst ho
  iintro ⟨Hb, ⟨%g, Ho⟩, Hs, ⟨%W', %hW', HO⟩, Hm⟩ Hk
  iapply (Transfers.wp_dmaLocal (EC (F := F)) 𝒱₀ (VT d L) none (default : HIx 1) NO rfl NO_pos
      (Finset.Subset.refl _) (q := fullShare) (fs := made lo hi) (fd := g)) $$ [Hb Ho Hs]
  · rw [set_oM, View.set_whole]
    isplitl [Hb]; · iexact Hb
    isplitl [Ho]; · iexact Ho
    iexact Hs
  iintro Hf
  iapply (Transfers.wp_waitLocalO (EC (F := F)) 𝒱₀ (VT d L) none (default : HIx 1) (dstw := oM off' h') (N := NO) rfl (O := O) (W := W')) $$ [Hf HO Hm]
  · isplitl [Hf]; · iexact Hf
    isplitl [HO]; · iexact HO
    iapply (Transfers.MayWaits.elim (SemLoc.dma sem)) $$ Hm
  iintro ⟨⟨Ho, Hb⟩, Hs, HO⟩
  iapply Hk
  rw [set_oM, View.set_whole]
  isplitl [Hb]; · iexists _; iexact Hb
  isplitl [Ho]
  · iapply (Entails.of_eq (pointsTo_congr (got_made d X hr hb h hl hh g))) $$ Ho
  isplitl [Hs]; · iexact Hs
  iexists _; isplitr
  · ipureintro; exact recorded (sm := SemLoc.dma sem) hW'
  · iexact HO

end Steps

end Cert.Proof.Unpool

end
-- ==== Proof.Tile.lean ====
/-
  One tile's run, from what it is dealt to what it hands back.
-/
module

public import proofs.«01_k».proof.Proof.Ring
public import proofs.«01_k».proof.Proof.Tail

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (X : S16x4096x512.Idx → F .f32)

/-- The DMA semaphores of the tile, as the kernel names them. -/
abbrev sems : Fin 10 → DmaSem sig :=
  ![cc0_scratch3.sem, cc0_scratch4.sem, cc0_scratch5.sem, cc0_scratch6.sem, cc0_scratch7.sem, cc0_scratch8.sem, cc0_scratch9.sem, cc0_scratch10.sem,
    cc0_scratch11.sem, cc0_scratch12.sem]

/-- The kernel on the tile, over the whole arrays and the tile's own buffers and semaphores. -/
abbrev body : Prog (TpuEff nD τ sig (Elt F) Λ₀ (VT d L).2) Unit :=
  cc0__sc_unpool (F := F) L xV (Memref.isWhole_whole _) oV (Memref.isWhole_whole _) bV (Memref.isWhole_whole _) loV (Memref.isWhole_whole _)
    hiV (Memref.isWhole_whole _) cc0_scratch3 cc0_scratch4 cc0_scratch5 cc0_scratch6 cc0_scratch7 cc0_scratch8 cc0_scratch9 cc0_scratch10
    cc0_scratch11 cc0_scratch12

/-- The first of the rows the tile makes, counted from row 4096. -/
abbrev trow : ℕ := 32 * (L 0).val

/-- A ring buffer's own semaphores at zero, its share of `x`, and the buffer. -/
abbrev slotRes (si so : DmaSem sig) (q : PosShare TreeShare) (p : ℕ) : sProp 𝕄 :=
  iprop(xTok d X q ∗ bAny (F := F) d L p ∗ semVal (VT d L, SemLoc.dma si) 0 ∗ semVal (VT d L, SemLoc.dma so) 0)

omit [FloatOps F] in
theorem lo_any (f : S32x512.Idx → F .f32) : loAt d L f ⊢ mAny (F := F) d L loV := by
  have h : loV.view.set = Finset.univ := View.set_whole _
  unfold mAny
  rw [h]
  iintro H
  iexists f
  iexact H

omit [FloatOps F] in
theorem hi_any (f : S32x512.Idx → F .f32) : hiAt d L f ⊢ mAny (F := F) d L hiV := by
  have h : hiV.view.set = Finset.univ := View.set_whole _
  unfold mAny
  rw [h]
  iintro H
  iexists f
  iexact H

omit [FloatOps F] in
/-- The two parts of a share of `x` joined. -/
theorem xOn_join (q : PosShare TreeShare) (I : Finset S16x4096x512.Idx) :
    iprop(xOn d X q I ∗ xOn d X q (Finset.univ \ I)) ⊢ xTok d X q :=
  (pointsTo_split_subset (Finset.subset_univ I)).2

theorem trow_le : trow L + 32 ≤ 64 := by
  have h : (L 0).val < 2 := (L 0).isLt
  unfold trow; omega

/-- The ring after its last trip: the four last chunks on their way out. -/
theorem ringEnd (O : CellTallies nD τ sig (HIx 1)) (W : Waits sig (HIx 1)) (qs : Fin 4 → PosShare TreeShare)
    {a7 a8 a9 a10 a11 a12 a13 a14 : DmaSems sig S_} :
    ringAt d L X O W qs a7 a8 a9 a10 a11 a12 a13 a14 k0_t1_loop.trips
      ⊢ iprop(slotOut d L X a7.sem a11.sem (qs 0) 0 15 ∗ slotOut d L X a8.sem a12.sem (qs 1) 1 15 ∗ slotOut d L X a9.sem a13.sem (qs 2) 2 15
          ∗ slotOut d L X a10.sem a14.sem (qs 3) 3 15 ∗ owesR (F := F) d L O W) := by
  rw [show k0_t1_loop.trips = 16 by decide]
  unfold ringAt
  rw [slotAt_end, slotAt_end, slotAt_end, slotAt_end]
  iintro ⟨H0, H1, H2, H3, HO, -⟩
  isplitl [H0]; · iexact H0
  isplitl [H1]; · iexact H1
  isplitl [H2]; · iexact H2
  isplitl [H3]; · iexact H3
  iexact HO

/-- The tile's run: all its chunks of `out` copied, its rows of the tail made. -/
theorem tile_run (O : CellTallies nD τ sig (HIx 1)) (W : Waits sig (HIx 1)) (qs : Fin 4 → PosShare TreeShare) (q q' : PosShare TreeShare) :
    iprop(mayW (F := F) d L O
        ∗ (slotRes d L X cc0_scratch3.sem cc0_scratch7.sem (qs 0) 0 ∗ anys (F := F) d L 0 0)
        ∗ (slotRes d L X cc0_scratch4.sem cc0_scratch8.sem (qs 1) 1 ∗ anys (F := F) d L 1 0)
        ∗ (slotRes d L X cc0_scratch5.sem cc0_scratch9.sem (qs 2) 2 ∗ anys (F := F) d L 2 0)
        ∗ (slotRes d L X cc0_scratch6.sem cc0_scratch10.sem (qs 3) 3 ∗ anys (F := F) d L 3 0)
        ∗ (xTok d X q ∗ xTok d X q' ∗ (∃ f, loAt (F := F) d L f) ∗ (∃ f, hiAt (F := F) d L f) ∗ semVal (VT d L, SemLoc.dma cc0_scratch11.sem) 0
            ∗ semVal (VT d L, SemLoc.dma cc0_scratch12.sem) 0 ∗ oAny (F := F) d (bat L) (trow L + 4096))
        ∗ owesR (F := F) d L O W)
      ⊢ wp frame (wpE (defs₀ (F := F)) 𝒱₀ (VT d L) none) Set.univ (body d L)
          fun _ => iprop((slotRes d L X cc0_scratch3.sem cc0_scratch7.sem (qs 0) 0 ∗ gots d L X 0 16)
            ∗ (slotRes d L X cc0_scratch4.sem cc0_scratch8.sem (qs 1) 1 ∗ gots d L X 1 16)
            ∗ (slotRes d L X cc0_scratch5.sem cc0_scratch9.sem (qs 2) 2 ∗ gots d L X 2 16)
            ∗ (slotRes d L X cc0_scratch6.sem cc0_scratch10.sem (qs 3) 3 ∗ gots d L X 3 16)
            ∗ (xTok d X q ∗ xTok d X q' ∗ (∃ f, loAt (F := F) d L f) ∗ (∃ f, hiAt (F := F) d L f) ∗ semVal (VT d L, SemLoc.dma cc0_scratch11.sem) 0
                ∗ semVal (VT d L, SemLoc.dma cc0_scratch12.sem) 0 ∗ oGot d X (bat L) (trow L + 4096))
            ∗ owesR (F := F) d L O W) := by
  have e0 : k0_off3 L 0#32 = ![bat L, row L 0 0, 0] := off_row (k0_off3_eq L 0) (by unfold row; simp)
  have e1 : k0_off3 L 32#32 = ![bat L, row L 0 1, 0] := off_row (k0_off3_eq L 1) (by unfold row; simp)
  have e2 : k0_off3 L 64#32 = ![bat L, row L 0 2, 0] := off_row (k0_off3_eq L 2) (by unfold row; simp)
  have e3 : k0_off3 L 96#32 = ![bat L, row L 0 3, 0] := off_row (k0_off3_eq L 3) (by unfold row; simp)
  unfold body
  rw [cc0__sc_unpool_eq_skeleton]
  simp (proj := false) only [cc0__sc_unpool_skel, k0_part13_eq_skeleton, k0_part14_eq_skeleton, k0_part15_eq_skeleton, k0_part13_skel,
    k0_part14_skel, k0_part15_skel, Prog.lift, Prog.bind_op, Prog.bind_ret, Prog.pure_eq_ret, Prog.bind_assoc]
  iintro ⟨#Hm, ⟨⟨Hx0, Hb0, Hi0, Ho0⟩, Ha0⟩, ⟨⟨Hx1, Hb1, Hi1, Ho1⟩, Ha1⟩, ⟨⟨Hx2, Hb2, Hi2, Ho2⟩, Ha2⟩, ⟨⟨Hx3, Hb3, Hi3, Ho3⟩, Ha3⟩,
    ⟨Hx, Hx', ⟨%f, Hlo⟩, ⟨%f', Hhi⟩, Ht, Hs, Ho⟩, HO⟩
  imod (fetching_start d L X (q := q) (q' := q') (b := bat L) (r := trow L)) $$ Ht with HF
  iapply (step_lo d L X (k0_off1_eq L)) $$ [Hx Hlo HF]
  · isplitl [Hx]; · iexact Hx
    isplitl [Hlo]
    · iapply (lo_any d L f) $$ Hlo
    iexact HF
  iintro ⟨HF, Hxr⟩
  iapply (step_hi d L X (k0_off2_eq L)) $$ [Hx' Hhi HF]
  · isplitl [Hx']; · iexact Hx'
    isplitl [Hhi]
    · iapply (hi_any d L f') $$ Hhi
    iexact HF
  iintro ⟨HF, Hxr'⟩
  iapply (step_start d L X (so := cc0_scratch7.sem) e0 rfl) $$ [Hx0 Hb0 Hi0 Ho0 Ha0]
  · isplitl [Hx0]; · iexact Hx0
    isplitl [Hb0]; · iexact Hb0
    isplitl [Hi0]; · iexact Hi0
    isplitl [Ho0]; · iexact Ho0
    iexact Ha0
  iintro H0
  iapply (step_start d L X (so := cc0_scratch8.sem) e1 rfl) $$ [Hx1 Hb1 Hi1 Ho1 Ha1]
  · isplitl [Hx1]; · iexact Hx1
    isplitl [Hb1]; · iexact Hb1
    isplitl [Hi1]; · iexact Hi1
    isplitl [Ho1]; · iexact Ho1
    iexact Ha1
  iintro H1
  iapply (step_start d L X (so := cc0_scratch9.sem) e2 rfl) $$ [Hx2 Hb2 Hi2 Ho2 Ha2]
  · isplitl [Hx2]; · iexact Hx2
    isplitl [Hb2]; · iexact Hb2
    isplitl [Hi2]; · iexact Hi2
    isplitl [Ho2]; · iexact Ho2
    iexact Ha2
  iintro H2
  iapply (step_start d L X (so := cc0_scratch10.sem) e3 rfl) $$ [Hx3 Hb3 Hi3 Ho3 Ha3]
  · isplitl [Hx3]; · iexact Hx3
    isplitl [Hb3]; · iexact Hb3
    isplitl [Hi3]; · iexact Hi3
    isplitl [Ho3]; · iexact Ho3
    iexact Ha3
  iintro H3
  sl_for (fun k _ => ringAt d L X O W qs cc0_scratch3 cc0_scratch4 cc0_scratch5 cc0_scratch6 cc0_scratch7 cc0_scratch8 cc0_scratch9 cc0_scratch10 k) $$ [H0 H1 H2 H3 HO]
  case region =>
    intro k _
    exact ring_trip d L X O W qs _ _ _ _ _ _ _ _ _ _ _ k
  · unfold ringAt
    rw [slotAt_lt d L X (by decide), slotAt_lt d L X (by decide), slotAt_lt d L X (by decide), slotAt_lt d L X (by decide)]
    isplitl [H0]; · iexact H0
    isplitl [H1]; · iexact H1
    isplitl [H2]; · iexact H2
    isplitl [H3]; · iexact H3
    isplitl [HO]; · iexact HO
    iexact Hm
  iintro %_ Hr
  ihave Hr := (ringEnd d L X O W qs) $$ Hr
  icases Hr with ⟨H0, H1, H2, H3, HO⟩
  iapply (step_end d L X) $$ [H0 HO]
  · isplitl [H0]; · iexact H0
    isplitl [HO]; · iexact HO
    iexact Hm
  iintro ⟨⟨Hx0, Hb0, Hi0, Ho0, Hg0⟩, HO⟩
  iapply (step_end d L X) $$ [H1 HO]
  · isplitl [H1]; · iexact H1
    isplitl [HO]; · iexact HO
    iexact Hm
  iintro ⟨⟨Hx1, Hb1, Hi1, Ho1, Hg1⟩, HO⟩
  iapply (step_end d L X) $$ [H2 HO]
  · isplitl [H2]; · iexact H2
    isplitl [HO]; · iexact HO
    iexact Hm
  iintro ⟨⟨Hx2, Hb2, Hi2, Ho2, Hg2⟩, HO⟩
  iapply (step_end d L X) $$ [H3 HO]
  · isplitl [H3]; · iexact H3
    isplitl [HO]; · iexact HO
    iexact Hm
  iintro ⟨⟨Hx3, Hb3, Hi3, Ho3, Hg3⟩, HO⟩
  iapply (step_wait d L X) $$ [HF HO]
  · isplitl [HF]; · iexact HF
    isplitl [HO]; · iexact HO
    iexact Hm
  iintro ⟨HF, HO⟩
  iapply (step_waitLast d L X) $$ [HF HO]
  · isplitl [HF]; · iexact HF
    isplitl [HO]; · iexact HO
    iexact Hm
  iintro ⟨⟨⟨%lo, %hlo, Hlo⟩, Hx⟩, ⟨⟨%hi, %hhi, Hhi⟩, Hx'⟩, Ht, HO⟩
  rw [View.set_whole, View.set_whole]
  ihave Hx := (xOn_join d X q (xrows (bat L) (trow L))) $$ [Hx Hxr]
  · isplitl [Hx]; · iexact Hx
    iexact Hxr
  ihave Hx' := (xOn_join d X q' (xrows (bat L) (trow L + 2048))) $$ [Hx' Hxr']
  · isplitl [Hx']; · iexact Hx'
    iexact Hxr'
  sl_for (fun k _ => iprop(loAt (F := F) d L (mid lo hi k 0) ∗ hiAt (F := F) d L hi)) $$ [Hlo Hhi]
  case region =>
    intro k _
    exact row_trip d L lo hi k _ _ _ _ _ _ _ _ _ _
  · isplitl [Hlo]
    · rw [mid_start]; iexact Hlo
    · iexact Hhi
  iintro %_ ⟨Hlo, Hhi⟩
  ihave Hlo := (Entails.of_eq (congrArg (loAt (F := F) d L) (mid_end lo hi))) $$ Hlo
  iapply (step_store d L X (trow_le L) (L 1).isLt hlo hhi (k0_off47_eq L)) $$ [Hlo Ho Hs HO]
  · isplitl [Hlo]; · iexact Hlo
    isplitl [Ho]; · iexact Ho
    isplitl [Hs]; · iexact Hs
    isplitl [HO]; · iexact HO
    iexact Hm
  iintro ⟨Hlo, Ho, Hs, HO⟩
  rw [wp_ret]
  imodintro
  isplitl [Hx0 Hb0 Hi0 Ho0 Hg0]
  · isplitr [Hg0]
    · isplitl [Hx0]; · iexact Hx0
      isplitl [Hb0]; · iexact Hb0
      isplitl [Hi0]; · iexact Hi0
      iexact Ho0
    · iexact Hg0
  isplitl [Hx1 Hb1 Hi1 Ho1 Hg1]
  · isplitr [Hg1]
    · isplitl [Hx1]; · iexact Hx1
      isplitl [Hb1]; · iexact Hb1
      isplitl [Hi1]; · iexact Hi1
      iexact Ho1
    · iexact Hg1
  isplitl [Hx2 Hb2 Hi2 Ho2 Hg2]
  · isplitr [Hg2]
    · isplitl [Hx2]; · iexact Hx2
      isplitl [Hb2]; · iexact Hb2
      isplitl [Hi2]; · iexact Hi2
      iexact Ho2
    · iexact Hg2
  isplitl [Hx3 Hb3 Hi3 Ho3 Hg3]
  · isplitr [Hg3]
    · isplitl [Hx3]; · iexact Hx3
      isplitl [Hb3]; · iexact Hb3
      isplitl [Hi3]; · iexact Hi3
      iexact Ho3
    · iexact Hg3
  isplitr [HO]
  · isplitl [Hx]; · iexact Hx
    isplitl [Hx']; · iexact Hx'
    isplitl [Hlo]; · iexact Hlo
    isplitl [Hhi]; · iexists hi; iexact Hhi
    isplitl [Ht]; · iexact Ht
    isplitl [Hs]; · iexact Hs
    iexact Ho
  · iexact HO

end Cert.Proof.Unpool

end
-- ==== Proof.Parts.lean ====
/-
  How the arrays are dealt out: `out` and the read shares of `x` over the 32 tiles, and within a tile the chunks of
  `out`, the read shares of its copies and the four buffers of its ring. Each split is an equality, so it also joins.
-/
module

public import proofs.«01_k».proof.Proof.Tile

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The elements of `out` a tile writes -/

/-- The rows ring buffer `p` of tile `s` of core `c` copies: sixteen chunks. -/
abbrev chunk (c s p t : ℕ) : Finset S16x4160x512.Idx := orows s (2048 * c + 128 * t + 32 * p)
/-- What tile `s` of core `c` writes: the rows it copies, and the rows it makes. -/
@[irreducible] def otile (c s : ℕ) : Finset S16x4160x512.Idx :=
  ((Finset.range 4).biUnion fun p => (Finset.range 16).biUnion fun t => chunk c s p t) ∪ orows s (32 * c + 4096)

/-- The tile's rows by number. -/
theorem mem_otile {c s : ℕ} {i : S16x4160x512.Idx} :
    i ∈ otile c s ↔ (i 0).val = s ∧ ((2048 * c ≤ (i 1).val ∧ (i 1).val < 2048 * c + 2048) ∨ (32 * c + 4096 ≤ (i 1).val ∧ (i 1).val < 32 * c + 4128)) := by
  unfold otile chunk
  simp only [Finset.mem_union, Finset.mem_biUnion, Finset.mem_range, mem_orows]
  constructor
  · rintro (⟨p, hp, t, ht, h0, h1, h2⟩ | ⟨h0, h1, h2⟩)
    · exact ⟨h0, .inl ⟨by omega, by omega⟩⟩
    · exact ⟨h0, .inr ⟨by omega, by omega⟩⟩
  · rintro ⟨h0, ⟨h1, h2⟩ | ⟨h1, h2⟩⟩
    · exact .inl ⟨((i 1).val - 2048 * c) / 32 % 4, by omega, ((i 1).val - 2048 * c) / 128, by omega, h0, by omega, by omega⟩
    · exact .inr ⟨h0, by omega, by omega⟩

/-- Two blocks of rows of one batch that do not meet. -/
theorem orows_disjoint {b r r' : ℕ} (h : r + 32 ≤ r' ∨ r' + 32 ≤ r) : Disjoint (orows b r) (orows b r') := by
  refine Finset.disjoint_left.mpr fun i hi hj => ?_
  have := mem_orows.mp hi; have := mem_orows.mp hj
  omega

/-- A tile's part of `out` is its chunks and the block it makes. -/
theorem otile_parts {c s : ℕ} (hc : c < 2) (d : Dev nD) (f : Buf (Elt F) (oLoc d)) :
    (oLoc d ↦[otile c s]{fullShare} f : sProp 𝕄)
      = iprop((bigSep (Finset.range 4) fun p => bigSep (Finset.range 16) fun t => oLoc d ↦[chunk c s p t]{fullShare} f)
          ∗ oLoc d ↦[orows s (32 * c + 4096)]{fullShare} f) := by
  have hd : Disjoint ((Finset.range 4).biUnion fun p => (Finset.range 16).biUnion fun t => chunk c s p t) (orows s (32 * c + 4096)) := by
    simp only [Finset.disjoint_biUnion_left, Finset.mem_range]
    intro p hp t ht
    exact orows_disjoint (.inl (by omega))
  have hp : ∀ p ∈ Finset.range 4, ∀ p' ∈ Finset.range 4, p ≠ p' →
      Disjoint ((Finset.range 16).biUnion fun t => chunk c s p t) ((Finset.range 16).biUnion fun t => chunk c s p' t) := by
    simp only [Finset.disjoint_biUnion_left, Finset.disjoint_biUnion_right, Finset.mem_range]
    intro p hp p' hp' hne t ht t' ht'
    exact orows_disjoint (by omega)
  have ht : ∀ p, ∀ t ∈ Finset.range 16, ∀ t' ∈ Finset.range 16, t ≠ t' → Disjoint (chunk c s p t) (chunk c s p t') := by
    intro p t _ t' _ hne
    exact orows_disjoint (by omega)
  unfold otile
  rw [BI.Entails.antisymm (pointsTo_union hd).1 (pointsTo_union hd).2, pointsTo_biUnion (ℓ := oLoc d) _ _ hp]
  congr 1
  exact bigSep_congr fun p _ => pointsTo_biUnion (ℓ := oLoc d) _ _ (ht p)

/-! ## The tiles -/

/-- The tiles' parts of `out` do not meet, and are all of it. -/
theorem otile_disjoint {c c' s s' : ℕ} (hc : c < 2) (hc' : c' < 2) (h : (c, s) ≠ (c', s')) : Disjoint (otile c s) (otile c' s') := by
  refine Finset.disjoint_left.mpr fun i hi hj => h ?_
  obtain ⟨h0, h1⟩ := mem_otile.mp hi; obtain ⟨h0', h1'⟩ := mem_otile.mp hj
  exact Prod.ext (show c = c' by omega) (h0.symm.trans h0')
theorem otile_cover : (Finset.univ : Finset (Fin 2 × Fin 16)).biUnion (fun p => otile p.1.val p.2.val) = Finset.univ := by
  refine Finset.eq_univ_of_forall fun i => Finset.mem_biUnion.mpr ?_
  have h1 : (i 1).val < 4160 := (i 1).isLt
  rcases Nat.lt_or_ge (i 1).val 4096 with h | h
  · exact ⟨(⟨(i 1).val / 2048, by omega⟩, i 0), Finset.mem_univ _, mem_otile.mpr ⟨rfl, .inl ⟨by dsimp only; omega, by dsimp only; omega⟩⟩⟩
  · exact ⟨(⟨((i 1).val - 4096) / 32, by omega⟩, i 0), Finset.mem_univ _, mem_otile.mpr ⟨rfl, .inr ⟨by dsimp only; omega, by dsimp only; omega⟩⟩⟩

/-- `out` whole is the tiles' parts. -/
theorem out_tiles (d : Dev nD) (f : Buf (Elt F) (oLoc d)) :
    (oLoc d ↦{fullShare} f : sProp 𝕄)
      = bigSep Finset.univ fun c : Fin 2 => bigSep Finset.univ fun s : Fin 16 => oLoc d ↦[otile c.val s.val]{fullShare} f := by
  have h := pointsTo_biUnion (Name := ℕ) (U := UU) (Lvl := ℕ) (Ix := HIx 1) (Val := Elt F) (ℓ := oLoc d) (q := fullShare) (f := f) (Finset.univ : Finset (Fin 2 × Fin 16)) (fun p => otile p.1.val p.2.val)
    fun p _ p' _ hne => otile_disjoint p.1.isLt p'.1.isLt fun e =>
      hne (Prod.ext (Fin.ext (congrArg Prod.fst e)) (Fin.ext (congrArg Prod.snd e)))
  rw [otile_cover, BI.bigSep_univ_prod] at h
  exact h

/-- The share of `x` tile `s` of core `c` reads at, and what is left of the whole. -/
abbrev xq (c s : ℕ) : PosShare TreeShare := Transfers.shareTokN fullShare (16 * c + s)
abbrev xrest : PosShare TreeShare := Transfers.shareDrop fullShare 32

/-- `x` whole is the tiles' shares of it and a rest. -/
theorem x_tiles (d : Dev nD) (X : S16x4096x512.Idx → F .f32) :
    xTok d X fullShare = iprop(xTok d X xrest ∗ bigSep Finset.univ fun c : Fin 2 => bigSep Finset.univ fun s : Fin 16 => xTok d X (xq c.val s.val)) := by
  have h := Transfers.pointsTo_toks_range (Name := ℕ) (U := UU) (Lvl := ℕ) (Ix := HIx 1) (Val := Elt F) (ℓ := xLoc d) (S := Finset.univ) (f := X) fullShare 32
  have e : Finset.range 32 = (Finset.univ : Finset (Fin 2 × Fin 16)).image fun p => 16 * p.1.val + p.2.val := by decide
  have inj : Set.InjOn (fun p : Fin 2 × Fin 16 => 16 * p.1.val + p.2.val) ((Finset.univ : Finset (Fin 2 × Fin 16)) : Set (Fin 2 × Fin 16)) := by
    intro p _ p' _ he
    have he' : 16 * p.1.val + p.2.val = 16 * p'.1.val + p'.2.val := he
    have := p.2.isLt; have := p'.2.isLt
    exact Prod.ext (Fin.ext (by omega)) (Fin.ext (by omega))
  rw [e, SparseCore.bigSep_image_of_injOn inj, BI.bigSep_univ_prod] at h
  exact BI.Entails.antisymm h.1 h.2

/-! ## Within a tile -/

/-- The six shares a tile's copies read `x` at, and what is left of the tile's. -/
abbrev xk (q : PosShare TreeShare) (k : ℕ) : PosShare TreeShare := Transfers.shareTokN q k

/-- A tile's share of `x` is its copies' and a rest. -/
theorem x_copies (d : Dev nD) (X : S16x4096x512.Idx → F .f32) (q : PosShare TreeShare) :
    xTok d X q = iprop(xTok d X (Transfers.shareDrop q 6) ∗ xTok d X (xk q 0) ∗ xTok d X (xk q 1) ∗ xTok d X (xk q 2) ∗ xTok d X (xk q 3)
      ∗ xTok d X (xk q 4) ∗ xTok d X (xk q 5)) := by
  have h := Transfers.pointsTo_toks_range (Name := ℕ) (U := UU) (Lvl := ℕ) (Ix := HIx 1) (Val := Elt F) (ℓ := xLoc d) (S := Finset.univ) (f := X) q 6
  rw [show Finset.range 6 = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton] at h
  exact BI.Entails.antisymm h.1 h.2

/-- The ring's four buffers are all of its memory, and do not meet. -/
theorem slot_disjoint : ∀ p ∈ Finset.range 4, ∀ p' ∈ Finset.range 4, p ≠ p' → Disjoint (slot p) (slot p') := by
  intro p _ p' _ hne
  exact Finset.disjoint_left.mpr fun i hi hj => hne ((mem_slot.mp hi).symm.trans (mem_slot.mp hj))
theorem slot_cover : (Finset.range 4).biUnion slot = Finset.univ :=
  Finset.eq_univ_of_forall fun i => Finset.mem_biUnion.mpr ⟨(i 0).val, Finset.mem_range.mpr (i 0).isLt, mem_slot.mpr rfl⟩

/-- A conjunction over the ring's four buffers, one by one. -/
theorem over_four (Φ : ℕ → sProp 𝕄) : bigSep (Finset.range 4) Φ = iprop(Φ 0 ∗ Φ 1 ∗ Φ 2 ∗ Φ 3) := by
  rw [show Finset.range 4 = {0, 1, 2, 3} by decide, SparseCore.bigSep_insert' (by decide), SparseCore.bigSep_insert' (by decide),
    SparseCore.bigSep_insert' (by decide), bigSep_singleton]

/-- A ring buffer, or rows of `out`, at known contents are at some. -/
theorem bAny_intro (d : Dev nD) (L : grid0.Coords) (p : ℕ) (f : Buf (Elt F) (bLoc d L)) :
    (bLoc d L ↦[slot p]{fullShare} f : sProp 𝕄) ⊢ bAny (F := F) d L p := by
  iintro H
  iexists f
  iexact H
theorem oAny_intro (d : Dev nD) (b r : ℕ) (f : Buf (Elt F) (oLoc d)) :
    (oLoc d ↦[orows b r]{fullShare} f : sProp 𝕄) ⊢ oAny (F := F) d b r := by
  iintro H
  iexists f
  iexact H

/-- The ring's memory cut into its buffers. -/
theorem ring_cut (d : Dev nD) (L : grid0.Coords) (f : Buf (Elt F) (bLoc d L)) :
    (bLoc d L ↦{fullShare} f : sProp 𝕄) ⊢ iprop(bAny (F := F) d L 0 ∗ bAny (F := F) d L 1 ∗ bAny (F := F) d L 2 ∗ bAny (F := F) d L 3) := by
  have h := pointsTo_biUnion (Name := ℕ) (U := UU) (Lvl := ℕ) (Ix := HIx 1) (Val := Elt F) (ℓ := bLoc d L) (q := fullShare) (f := f) (Finset.range 4) slot slot_disjoint
  rw [slot_cover] at h
  rw [← over_four (fun p => bAny (F := F) d L p)]
  refine (Entails.of_eq h).trans (bigSep_mono fun p _ => bAny_intro d L p f)

/-- The ring's buffers put back together. -/
theorem ring_join (d : Dev nD) (L : grid0.Coords) :
    iprop(bAny (F := F) d L 0 ∗ bAny (F := F) d L 1 ∗ bAny (F := F) d L 2 ∗ bAny (F := F) d L 3)
      ⊢ (iprop(∃ f, bLoc d L ↦{fullShare} f) : sProp 𝕄) := by
  iintro ⟨⟨%f0, H0⟩, ⟨%f1, H1⟩, ⟨%f2, H2⟩, ⟨%f3, H3⟩⟩
  let fs : ℕ → Buf (Elt F) (bLoc d L) := fun p => match p with | 0 => f0 | 1 => f1 | 2 => f2 | _ => f3
  have hj := pointsTo_biUnion_join (Name := ℕ) (U := UU) (Lvl := ℕ) (Ix := HIx 1) (Val := Elt F) (ℓ := bLoc d L) (q := fullShare) (Finset.range 4) slot fs f0 slot_disjoint
  rw [slot_cover, over_four] at hj
  ihave H := hj $$ [H0 H1 H2 H3]
  · isplitl [H0]; · iexact H0
    isplitl [H1]; · iexact H1
    isplitl [H2]; · iexact H2
    iexact H3
  icases H with ⟨%g, -, H⟩
  iexists g
  iexact H

variable (d : Dev nD) (L : grid0.Coords) (X : S16x4096x512.Idx → F .f32)

/-- A tile's part of `out` at the launch, as its copies take it. -/
theorem out_cut (f : Buf (Elt F) (oLoc d)) :
    (oLoc d ↦[otile (L 0).val (L 1).val]{fullShare} f : sProp 𝕄)
      ⊢ iprop((anys (F := F) d L 0 0 ∗ anys (F := F) d L 1 0 ∗ anys (F := F) d L 2 0 ∗ anys (F := F) d L 3 0)
          ∗ oAny (F := F) d (bat L) (trow L + 4096)) := by
  have hc : (L 0).val < 2 := (L 0).isLt
  rw [otile_parts hc, ← over_four (fun p => anys (F := F) d L p 0)]
  refine BI.sep_mono (bigSep_mono fun p _ => ?_) ?_
  · unfold anys
    rw [Nat.Ico_zero_eq_range]
    exact bigSep_mono fun t _ => oAny_intro d _ _ f
  · exact oAny_intro d _ _ f

/-- A tile's part of `out` at the end, from what its copies leave. -/
theorem out_join :
    iprop((gots d L X 0 16 ∗ gots d L X 1 16 ∗ gots d L X 2 16 ∗ gots d L X 3 16) ∗ oGot d X (bat L) (trow L + 4096))
      ⊢ (oLoc d ↦[otile (L 0).val (L 1).val]{fullShare} (G X : Buf (Elt F) (oLoc d)) : sProp 𝕄) := by
  have hc : (L 0).val < 2 := (L 0).isLt
  rw [otile_parts hc, ← over_four (fun p => gots d L X p 16)]
  refine BI.sep_mono (bigSep_mono fun p _ => ?_) (BI.Entails.refl _)
  unfold gots
  exact BI.Entails.refl _

end Cert.Proof.Unpool

end
-- ==== Proof.Task.lean ====
/-
  A tile's task as the launch calls it: from what the tile is dealt, its scratch memory and its semaphores at zero, to
  what it hands back, with the rows of `out` it writes at their value.
-/
module

public import proofs.«01_k».proof.Proof.Parts

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (X : S16x4096x512.Idx → F .f32)

/-- The tile's ten semaphores at zero. -/
abbrev cells : sProp 𝕄 :=
  iprop(semVal (VT d L, SemLoc.dma cc0_scratch3.sem) 0 ∗ semVal (VT d L, SemLoc.dma cc0_scratch4.sem) 0 ∗ semVal (VT d L, SemLoc.dma cc0_scratch5.sem) 0
    ∗ semVal (VT d L, SemLoc.dma cc0_scratch6.sem) 0 ∗ semVal (VT d L, SemLoc.dma cc0_scratch7.sem) 0 ∗ semVal (VT d L, SemLoc.dma cc0_scratch8.sem) 0
    ∗ semVal (VT d L, SemLoc.dma cc0_scratch9.sem) 0 ∗ semVal (VT d L, SemLoc.dma cc0_scratch10.sem) 0 ∗ semVal (VT d L, SemLoc.dma cc0_scratch11.sem) 0
    ∗ semVal (VT d L, SemLoc.dma cc0_scratch12.sem) 0)
/-- The same as one family. -/
abbrev cell (d : Dev nD) (L : grid0.Coords) (k : Fin 10) : GSem nD τ sig := (VT d L, .dma (sems k))

omit [FloatOps F] in
theorem cell_mem (k : Fin 10) : cell d L k ∈ ownCells (VT d L) :=
  mem_ownCells.mpr ⟨rfl, (show ∀ s : DmaSem sig, (SemLoc.dma s : SemLoc sig).isScoped .scVector = true by decide) _⟩
omit [FloatOps F] in
theorem sems_inj : Function.Injective sems := by decide

omit [FloatOps F] in
/-- The tile's own semaphores at zero: the ten the kernel names, and the rest. -/
theorem ownSems_tile :
    (ownSems0 (VT d L) : sProp 𝕄)
      = iprop(cells (F := F) d L ∗ bigSep ((ownCells (VT d L)) \ Finset.univ.image (cell d L)) fun g => semVal g 0) := by
  unfold SparseCore.Cfg.ownSems0
  rw [SparseCore.bigSep_sdiff_split' (t := Finset.univ.image (cell d L)) (Finset.image_subset_iff.mpr fun k _ => cell_mem d L k),
    SparseCore.bigSep_image_of_injOn (fun a _ b _ h => sems_inj (SemLoc.dma.inj (congrArg (fun g : GSem nD τ sig => g.2) h))),
    show (Finset.univ : Finset (Fin 10)) = {0, 1, 2, 3, 4, 5, 6, 7, 8, 9} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The tile's buffers but the three the kernel uses. -/
abbrev otherRefs : Finset (DevRef τ sig) :=
  (((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)

omit [FloatOps F] in
/-- The tile's own buffers: the three the kernel uses, and the rest. -/
theorem ownBufs_tile :
    (ownBufs (VT d L) : sProp 𝕄)
      = iprop((∃ f, bLoc d L ↦{fullShare} f) ∗ (∃ f, loAt (F := F) d L f) ∗ (∃ f, hiAt (F := F) d L f)
          ∗ bigSep (otherRefs L) fun b => iprop(∃ f, ((d, b) : Loc nD τ sig) ↦{fullShare} f)) := by
  have own (b : Ref sig .scVector) (h : ((Proc.scVector (cV L) (jV L)).devRef b).owner = .proc (Proc.scVector (cV L) (jV L))) :
      (Proc.scVector (cV L) (jV L)).devRef b ∈ ownRefs (τ := τ) (.scVector (cV L) (jV L)) := SparseCore.Cfg.mem_ownRefs_of_owner h
  have ne {b b' : Ref sig .scVector} (h : b ≠ b') : (Proc.scVector (cV L) (jV L)).devRef b ≠ (Proc.scVector (cV L) (jV L)).devRef b' :=
    fun e => h (Proc.devRef_injective _ e)
  unfold SparseCore.Cfg.ownBufs
  refine (SparseCore.bigSep_erase' (own cc0_scratch0 rfl)).trans ?_
  rw [SparseCore.bigSep_erase' (Finset.mem_erase.mpr ⟨ne (show (cc0_scratch1 : Ref sig .scVector) ≠ cc0_scratch0 by decide), own cc0_scratch1 rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), own cc0_scratch2 rfl⟩⟩)]
  rfl

/-- The tile's part of `out`. -/
abbrev oTile (c s : ℕ) (f : Buf (Elt F) (oLoc d)) : sProp 𝕄 := oLoc d ↦[otile c s]{fullShare} f

/-- The task of tile `L`, from what the launch deals it to what it hands back: its share of `x` cut into its copies' shares, its
    part of `out` into their blocks, and both put back together. -/
theorem tile_task (O : CellTallies nD τ sig (HIx 1)) (W : Waits sig (HIx 1)) (hO : ∀ g, O g none = 0) (f₀ : Buf (Elt F) (oLoc d)) :
    iprop(levAts (K (F := F)).L (K (F := F)).lev ∗ emp
        ∗ (xTok d X (xq (L 0).val (L 1).val) ∗ oTile d (L 0).val (L 1).val f₀)
        ∗ scopedBufs (VT d L) ∗ scopedSems0 (VT d L) ∗ owes (VT d L) O W)
      ⊢ wp frame (wpE (defs₀ (F := F)) 𝒱₀ (VT d L) none) Set.univ (body (F := F) d L)
          fun _ => iprop((xTok d X (xq (L 0).val (L 1).val) ∗ oTile d (L 0).val (L 1).val (G X))
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V facts d (cV L) (jV L), SparseCore.Cfg.scopedSems0_V (Val := Elt F) d (cV L) (jV L), ownSems_tile, ownBufs_tile,
    x_copies d X (xq (L 0).val (L 1).val)]
  iintro ⟨#Hlv, -, ⟨⟨Hxr, Hx0, Hx1, Hx2, Hx3, Hx4, Hx5⟩, Ho⟩, ⟨⟨%f, Hb⟩, Hlo, Hhi, Hbufs⟩,
    ⟨⟨S3, S4, S5, S6, S7, S8, S9, S10, S11, S12⟩, Hsems⟩, HO⟩
  ihave Hm := (show levAts (K (F := F)).L (K (F := F)).lev ⊢ mayW (F := F) d L O from (K (F := F)).mayWaits_none (thr := VT d L) hO) $$ Hlv
  ihave Hb := (ring_cut d L f) $$ Hb
  icases Hb with ⟨Hb0, Hb1, Hb2, Hb3⟩
  ihave Ho := (out_cut d L f₀) $$ Ho
  icases Ho with ⟨⟨Ha0, Ha1, Ha2, Ha3⟩, Ho⟩
  iapply (wp_wand_r Idealize.ShloMosaic.frame (wpE (defs₀ (F := F)) 𝒱₀ (VT d L) none) Set.univ)
  isplitl [Hm Hx0 Hx1 Hx2 Hx3 Hx4 Hx5 Hb0 Hb1 Hb2 Hb3 Ha0 Ha1 Ha2 Ha3 Ho Hlo Hhi S3 S4 S5 S6 S7 S8 S9 S10 S11 S12 HO]
  · iapply (tile_run d L X O W (fun p => xk (xq (L 0).val (L 1).val) p.val) (xk (xq (L 0).val (L 1).val) 4) (xk (xq (L 0).val (L 1).val) 5))
    isplitl [Hm]; · iexact Hm
    isplitl [Hx0 Hb0 S3 S7 Ha0]
    · isplitr [Ha0]
      · isplitl [Hx0]; · iexact Hx0
        isplitl [Hb0]; · iexact Hb0
        isplitl [S3]; · iexact S3
        iexact S7
      · iexact Ha0
    isplitl [Hx1 Hb1 S4 S8 Ha1]
    · isplitr [Ha1]
      · isplitl [Hx1]; · iexact Hx1
        isplitl [Hb1]; · iexact Hb1
        isplitl [S4]; · iexact S4
        iexact S8
      · iexact Ha1
    isplitl [Hx2 Hb2 S5 S9 Ha2]
    · isplitr [Ha2]
      · isplitl [Hx2]; · iexact Hx2
        isplitl [Hb2]; · iexact Hb2
        isplitl [S5]; · iexact S5
        iexact S9
      · iexact Ha2
    isplitl [Hx3 Hb3 S6 S10 Ha3]
    · isplitr [Ha3]
      · isplitl [Hx3]; · iexact Hx3
        isplitl [Hb3]; · iexact Hb3
        isplitl [S6]; · iexact S6
        iexact S10
      · iexact Ha3
    isplitr [HO]
    · isplitl [Hx4]; · iexact Hx4
      isplitl [Hx5]; · iexact Hx5
      isplitl [Hlo]; · iexact Hlo
      isplitl [Hhi]; · iexact Hhi
      isplitl [S11]; · iexact S11
      isplitl [S12]; · iexact S12
      iexact Ho
    · iexists W
      isplitr
      · ipureintro; exact fun p hp => .inl hp
      · iexact HO
  iintro %_ ⟨⟨⟨Hx0, Hb0, S3, S7⟩, Hg0⟩, ⟨⟨Hx1, Hb1, S4, S8⟩, Hg1⟩, ⟨⟨Hx2, Hb2, S5, S9⟩, Hg2⟩, ⟨⟨Hx3, Hb3, S6, S10⟩, Hg3⟩,
    ⟨Hx4, Hx5, Hlo, Hhi, S11, S12, Ho⟩, ⟨%W', %hW, HO⟩⟩
  isplitl [Hxr Hx0 Hx1 Hx2 Hx3 Hx4 Hx5 Hg0 Hg1 Hg2 Hg3 Ho]
  · isplitl [Hxr Hx0 Hx1 Hx2 Hx3 Hx4 Hx5]
    · isplitl [Hxr]; · iexact Hxr
      isplitl [Hx0]; · iexact Hx0
      isplitl [Hx1]; · iexact Hx1
      isplitl [Hx2]; · iexact Hx2
      isplitl [Hx3]; · iexact Hx3
      isplitl [Hx4]; · iexact Hx4
      iexact Hx5
    · iapply (out_join d L X)
      isplitr [Ho]
      · isplitl [Hg0]; · iexact Hg0
        isplitl [Hg1]; · iexact Hg1
        isplitl [Hg2]; · iexact Hg2
        iexact Hg3
      · iexact Ho
  isplitl [Hb0 Hb1 Hb2 Hb3 Hlo Hhi Hbufs]
  · isplitl [Hb0 Hb1 Hb2 Hb3]
    · iapply (ring_join d L)
      isplitl [Hb0]; · iexact Hb0
      isplitl [Hb1]; · iexact Hb1
      isplitl [Hb2]; · iexact Hb2
      iexact Hb3
    isplitl [Hlo]; · iexact Hlo
    isplitl [Hhi]; · iexact Hhi
    iexact Hbufs
  isplitl [S3 S4 S5 S6 S7 S8 S9 S10 S11 S12 Hsems]
  · isplitr [Hsems]
    · isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact S12
    · iexact Hsems
  iexists W'
  isplitr
  · ipureintro
    intro p hp
    rcases hW p hp with h | h
    · exact .inl h
    · exact .inr (.inl h)
  · iexact HO

end Cert.Proof.Unpool

end
-- ==== Proof.Launch.lean ====
/-
  The launch and `main`: what the calls carry, the tiles' tasks as the launch asks for them, and the kernel's run. `x` keeps its
  values, `out` ends at `G`, and every semaphore ends at zero.
-/
module

public import proofs.«01_k».proof.Proof.Task

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the calls carry -/

/-- `x` at the launch. -/
abbrev X₀ (d : Dev nD) : S16x4096x512.Idx → F .f32 := m (xLoc d)
/-- What a tile is handed, and what it hands back: its share of `x`, and its part of `out` before and after. -/
abbrev took (d : Dev nD) (c s : ℕ) : sProp 𝕄 := iprop(xTok d (X₀ m d) (xq c s) ∗ oTile d c s (m (oLoc d)))
abbrev gave (d : Dev nD) (c s : ℕ) : sProp 𝕄 := iprop(xTok d (X₀ m d) (xq c s) ∗ oTile d c s (G (X₀ m d)))

/-- A core's call carries its tiles' pieces, and so does each tile's. -/
def P : (K (F := F)).Pay (nD := nD) (Val := Elt F) (Name := ℕ) (U := UU) where
  st := fun q d c => match q with | 0 => bigSep Finset.univ fun s : Fin ((K (F := F)).nSub 0) => took m d c.val s.val
  dn := fun q d c => match q with | 0 => bigSep Finset.univ fun s : Fin ((K (F := F)).nSub 0) => gave m d c.val s.val
  go := fun q d c s => match q with | 0 => took m d c.val s.val
  td := fun q d c s => match q with | 0 => gave m d c.val s.val
  x := fun _ _ => iprop(emp)

instance P_storable : (P (F := F) m).IsStorable where
  st q d c := match q with
    | 0 => (inferInstance : BI.Storable (upEmb : UEmb _ 𝕄) (bigSep Finset.univ fun s : Fin ((K (F := F)).nSub 0) => took m d c.val s.val))
  dn q d c := match q with
    | 0 => (inferInstance : BI.Storable (upEmb : UEmb _ 𝕄) (bigSep Finset.univ fun s : Fin ((K (F := F)).nSub 0) => gave m d c.val s.val))
  go q d c s := match q with | 0 => (inferInstance : BI.Storable (upEmb : UEmb _ 𝕄) (took m d c.val s.val))
  td q d c s := match q with | 0 => (inferInstance : BI.Storable (upEmb : UEmb _ 𝕄) (gave m d c.val s.val))

/-- A core's call is its tiles' as it stands. -/
theorem vecSplit : (K (F := F)).VecSplit' (P m) 0 := by
  intro d c
  show (bigSep Finset.univ fun s : Fin ((K (F := F)).nSub 0) => took m d c.val s.val) ⊢ |={Set.univ}=> iprop(
      (bigSep Finset.univ fun s : Fin ((K (F := F)).nSub 0) => took m d c.val s.val)
      ∗ ((bigSep Finset.univ fun s : Fin ((K (F := F)).nSub 0) => gave m d c.val s.val)
          -∗ bigSep Finset.univ fun s : Fin ((K (F := F)).nSub 0) => gave m d c.val s.val))
  iintro H
  imodintro
  isplitl [H]; · iexact H
  iintro H
  iexact H

/-! ## The tiles' tasks -/

/-- The tile's coordinates. -/
abbrev tileAt (c : Fin (grid0.bound 0)) (s : Fin (grid0.bound 1)) : grid0.Coords :=
  fun | 0 => c | 1 => s | ⟨_ + 2, h⟩ => absurd h (Nat.not_lt.2 (Nat.le_add_left _ _))

theorem task_body (c : Fin τ.nSC) (s : Fin τ.nSub) :
    defs₀ (F := F) (.scVector c s) 0 ()
      = SparseCore.onTile hcore0 hsub0 (fun c s => cc0__sc_unpool (F := F) (tileAt c s) xV (Memref.isWhole_whole _) oV (Memref.isWhole_whole _)
          bV (Memref.isWhole_whole _) loV (Memref.isWhole_whole _) hiV (Memref.isWhole_whole _) cc0_scratch3 cc0_scratch4 cc0_scratch5 cc0_scratch6
          cc0_scratch7 cc0_scratch8 cc0_scratch9 cc0_scratch10 cc0_scratch11 cc0_scratch12) ⟨⟩ c s := rfl

/-- Every tile runs its task. -/
theorem tasks : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [task_body]; simp only [SparseCore.onTile, hci, and_self, ↓reduceDIte]
  exact tile_task d (tileAt ⟨_, hci.1⟩ ⟨_, hci.2⟩) (X₀ m d) O W hO (m (oLoc d))

/-! ## The launch's ghost state -/

/-- The handshakes' rounds at the start, and no transfer under way. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have none_held {I : Type} (s : Finset I) : (bigSep s fun _ => iprop(emp)) = (iprop(emp) : sProp 𝕄) := bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [none_held]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), none_held]
  iempintro

/-! ## `main` -/

theorem arrays (d : Dev nD) (V : (b : Ref sig .tc) → Buf (Elt F) ((d.tc : Thread nD τ).loc b)) :
    (unscopedBufs d V : sProp 𝕄) = iprop((xLoc d ↦{fullShare} V main_arg0) ∗ oLoc d ↦{fullShare} V main_v0) := by
  unfold unscopedBufs
  rw [show (Finset.univ.filter fun b : Ref sig .tc => ¬ b.isScoped) = {main_arg0, main_v0} by decide, SparseCore.bigSep_insert' (by decide), bigSep_singleton]

/-- A conjunction over the tiles of two things is the two conjunctions. -/
theorem over_tiles (A B : ℕ → ℕ → sProp 𝕄) :
    (bigSep Finset.univ fun c : Fin 2 => bigSep Finset.univ fun s : Fin 16 => iprop(A c.val s.val ∗ B c.val s.val))
      = iprop((bigSep Finset.univ fun c : Fin 2 => bigSep Finset.univ fun s : Fin 16 => A c.val s.val)
          ∗ bigSep Finset.univ fun c : Fin 2 => bigSep Finset.univ fun s : Fin 16 => B c.val s.val) := by
  rw [← bigSep_sep']
  exact bigSep_congr fun c _ => bigSep_sep' _ _ _

/-- What the calls are started with, and what they are done with. -/
theorem started (d : Dev nD) :
    (bigSep Finset.univ fun c : Fin ((K (F := F)).nCore 0) => (P m).st 0 d c)
      = iprop((bigSep Finset.univ fun c : Fin 2 => bigSep Finset.univ fun s : Fin 16 => xTok d (X₀ m d) (xq c.val s.val))
          ∗ bigSep Finset.univ fun c : Fin 2 => bigSep Finset.univ fun s : Fin 16 => oTile d c.val s.val (m (oLoc d))) :=
  over_tiles (fun c s => xTok d (X₀ m d) (xq c s)) (fun c s => oTile d c s (m (oLoc d)))
theorem finished (d : Dev nD) :
    (bigSep Finset.univ fun c : Fin ((K (F := F)).nCore 0) => (P m).dn 0 d c)
      = iprop((bigSep Finset.univ fun c : Fin 2 => bigSep Finset.univ fun s : Fin 16 => xTok d (X₀ m d) (xq c.val s.val))
          ∗ bigSep Finset.univ fun c : Fin 2 => bigSep Finset.univ fun s : Fin 16 => oTile d c.val s.val (G (X₀ m d))) :=
  over_tiles (fun c s => xTok d (X₀ m d) (xq c s)) (fun c s => oTile d c s (G (X₀ m d)))

/-- What `main` ends with: `x` as it was, and `out` at its value. -/
abbrev FIN (d : Dev nD) : sProp 𝕄 := iprop(xTok d (X₀ m d) fullShare ∗ oLoc d ↦{fullShare} (G (X₀ m d) : Buf (Elt F) (oLoc d)))

/-- `main` makes the one call, with `x` and `out` dealt to the tiles, and puts both together again. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays]
  simp only [main, wp_bind, wp_pure]
  iintro ⟨#Hctx, Hst, ⟨Hb, ⟨Hx, Ho⟩, Hts, -⟩, -⟩
  ihave Hx := (Entails.of_eq (x_tiles d (X₀ m d))) $$ Hx
  icases Hx with ⟨Hxr, Hx⟩
  ihave Ho := (Entails.of_eq (out_tiles d (m (oLoc d)))) $$ Ho
  iapply ((K (F := F)).wp_run (D (F := F)) 𝒱 (EH := EH) (P := P m) κ d 0) $$ [Hst Hx Ho Hb Hts Hxr]
  isplitr; · iexact Hctx
  isplitl [Hst]; · iexact Hst
  isplitl [Hx Ho]
  · rw [started]
    isplitl [Hx]; · iexact Hx
    iexact Ho
  iintro ⟨Hst, Hdn⟩
  ihave Hdn := (Entails.of_eq (finished m d)) $$ Hdn
  icases Hdn with ⟨Hx, Ho⟩
  imodintro
  isplitl [Hst]; · iexact Hst
  isplitr [Hb Hts]
  · isplitl [Hxr Hx]
    · rw [x_tiles]
      isplitl [Hxr]; · iexact Hxr
      iexact Hx
    · rw [out_tiles]
      iexact Ho
  isplitl [Hb] <;> iassumption

/-- What the arrays hold at the end. -/
def fq (d : Dev nD) (s' : Phys nD τ sig (Elt F)) : Prop := s'.mem.mem (xLoc d) = m (xLoc d) ∧ s'.mem.mem (oLoc d) = G (X₀ m d)

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := G (X₀ m d))) $$ [HSI Ho]
  · isplitl [HSI] <;> iassumption
  icases H with %h2
  ipureintro
  exact ⟨funext fun (i : Idx (xLoc d)) => h1 i (by simp), funext fun (i : Idx (oLoc d)) => h2 i (by simp)⟩

/-! ## The run -/

/-- What a run of the kernel ends with. -/
def QC : PUnit × MemSt nD τ sig (Elt F) → Prop := fun r =>
  (∀ c : Dev nD, r.2.mem (xLoc c) = m (xLoc c) ∧ r.2.mem (oLoc c) = G (X₀ m c)) ∧ r.2.sem = fun _ => 0

/-- The kernel's run, over any float values: it ends, with `x` as it was, `out` at `G`, and every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tasks m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Unpool

end
-- ==== Proof.Reference.lean ====
/-
  The reference's value. It stacks the row numbers `t` and `t + 2048`, gathers those two rows of `x` for each `t`, halves
  their sum and appends the result to `x`. Read at an index over the reals, that is `G`, the value the kernel leaves.
-/
module

public import proofs.«01_k».proof.Proof.Base
public import proofs.«01_k».proof.Proof.Gen.ReferenceIdeal.Run
public import Idealize.ShloMosaic.Lib.Pipeline.Value
public import Idealize.ShloMosaic.PureOps.Ideal.Laws

@[expose] public section

noncomputable section

namespace Cert.Proof.Unpool.Ref

open Cert.ReferenceIdeal Cert.ReferenceIdeal.Gen Idealize.ShloMosaic Idealize.ShloMosaic.StableHlo

/-- The numbers 0 to 63, as a column. -/
abbrev lows : IVec S64x1 32 := broadcastInDim S64x1 ![0] bcast_S64_S64x1_0 (iotaInDim S64 32 0)
/-- The numbers 2048 to 2111, as a column. -/
abbrev highs : IVec S64x1 32 :=
  broadcastInDim S64x1 ![0] bcast_S64_S64x1_0 (addi (iotaInDim S64 32 0) (broadcastInDim S64 ![] bcast_S_S64 (constantI S_ 32 2048#32)))
/-- The two columns beside each other. -/
abbrev both : IVec S64x2 32 := concatenate S64x2 1 [⟨S64x1, lows⟩, ⟨S64x1, highs⟩] concatenates_S64x1_S64x1_S64x2_d1
/-- The row numbers the gather reads: a negative one would count from the end. -/
abbrev rows : IVec S64x2x1 32 :=
  broadcastInDim S64x2x1 ![0, 1] bcast_S64x2_S64x2x1_0_1
    (select (cmpi .slt both (broadcastInDim S64x2 ![] bcast_S_S64x2 (constantI S_ 32 0#32)))
      (addi both (broadcastInDim S64x2 ![] bcast_S_S64x2 (constantI S_ 32 4096#32))) both)

/-- Entry `(t, k)` of the table is `t + 2048 k`. -/
theorem both_at (j : S64x2.Idx) : both j = BitVec.ofNat 32 ((j 0).val + 2048 * (j 1).val) := by
  have h1 : (j 1).val < 2 := (j 1).isLt
  have hcases : (j 1).val = 0 ∨ (j 1).val = 1 := by omega
  let i : S64x1.Idx := fun a => match a with | ⟨0, _⟩ => ⟨(j 0).val, (j 0).isLt⟩ | ⟨1, _⟩ => ⟨0, Nat.one_pos⟩
  rcases hcases with h | h
  · refine (concatenate_pair_apply_left 1 lows highs concatenates_S64x1_S64x1_S64x2_d1 j rfl i ?_).trans ?_
    · intro b
      match b with
      | ⟨0, _⟩ => rfl
      | ⟨1, _⟩ => exact h.symm
    · rw [h]; rfl
  · refine (concatenate_pair_apply_right 1 lows highs concatenates_S64x1_S64x1_S64x2_d1 j rfl rfl i ?_ ?_).trans ?_
    · intro b hb
      match b with
      | ⟨0, _⟩ => rfl
      | ⟨1, _⟩ => exact absurd rfl hb
    · exact h.symm
    · rw [h, BitVec.ofNat_add]; rfl

/-- The row number the gather reads at `(t, k)` is `t + 2048 k`: none is negative. -/
theorem rows_at (y : S64x2x1.Idx) : (rows y).toInt.toNat = (y 0).val + 2048 * (y 1).val := by
  have h0 : (y 0).val < 64 := (y 0).isLt
  have h1 : (y 1).val < 2 := (y 1).isLt
  let j : S64x2.Idx := fun a => match a with | ⟨0, _⟩ => ⟨(y 0).val, h0⟩ | ⟨1, _⟩ => ⟨(y 1).val, h1⟩
  have hrow : rows y = Scalar.select (IntOp.cmpi .slt (both j) 0#32) (both j + 4096#32) (both j) := by
    have hj : (fun a => if h1 : S64x2.size a = 1 then ⟨0, by omega⟩
        else ⟨(y (![0, 1] a)).val, by
          rcases bcast_S64x2_S64x2x1_0_1.2 a with h2 | h2
          · exact absurd h2 h1
          · rw [h2]; exact (y (![0, 1] a)).isLt⟩ : S64x2.Idx) = j := by
      funext a
      match a with
      | ⟨0, _⟩ => rfl
      | ⟨1, _⟩ => rfl
    rw [← hj]; rfl
  have hb : both j = BitVec.ofNat 32 ((y 0).val + 2048 * (y 1).val) := both_at j
  have hn : (y 0).val + 2048 * (y 1).val < 2112 := by omega
  generalize (y 0).val + 2048 * (y 1).val = n at hb hn
  have hi : (BitVec.ofNat 32 n).toInt = (n : Int) := by
    rw [BitVec.toInt_eq_toNat_of_lt (by rw [BitVec.toNat_ofNat]; omega), BitVec.toNat_ofNat]; omega
  have hs : IntOp.cmpi .slt (BitVec.ofNat 32 n) 0#32 = 0#1 := by
    have : (BitVec.ofNat 32 n).slt 0#32 = false := by
      rw [BitVec.slt_eq_decide, hi]; simp
    show BitVec.ofBool ((BitVec.ofNat 32 n).slt 0#32) = 0#1
    rw [this]; rfl
  rw [hrow, hb, hs]
  show (BitVec.ofNat 32 n).toInt.toNat = n
  rw [hi]; rfl

/-- The reference's gather, by its attributes. -/
abbrev dims : GatherDims S16x4096x512 S64x2x1 S16x64x2x512 := gather_S16x4096x512_S64x2x1_S16x64x2x512_03_1_n_n_1_2_161512

/-- The gather at `(b, t, k, c)` reads `x` at `(b, t + 2048 k, c)`. -/
theorem gathered {α : Type} (x : S16x4096x512.Idx → α) (y : S16x64x2x512.Idx) (i : S16x4096x512.Idx) (h0 : (i 0).val = (y 0).val)
    (h1 : (i 1).val = (y 1).val + 2048 * (y 2).val) (h2 : (i 2).val = (y 3).val) : Host.gather dims x rows y = x i := by
  have ht : (y 1).val < 64 := (y 1).isLt
  have hk : (y 2).val < 2 := (y 2).isLt
  let p : S64x2x1.Idx := fun a => match a with | ⟨0, _⟩ => ⟨(y 1).val, ht⟩ | ⟨1, _⟩ => ⟨(y 2).val, hk⟩ | ⟨2, _⟩ => ⟨0, Nat.one_pos⟩
  have hp : (rows p).toInt.toNat = (y 1).val + 2048 * (y 2).val := rows_at p
  show x (dims.operandIdx y rows) = x i
  congr 1
  funext a
  refine Fin.ext ?_
  show dims.start y rows a + dims.batchCoord y a + dims.offCoord y a = _
  rw [GatherDims.batchCoord_eq_zero _ _ _ List.not_mem_nil]
  have outer (a : Fin 3) (ha : a ≠ 1) : dims.start y rows a = 0 := by
    unfold GatherDims.start; exact dif_neg fun h => ha (List.mem_singleton.mp h)
  have kept (a : Fin 3) (ha : a ≠ 1) : a ∈ dims.sKept :=
    (dims.mem_sKept a).2 ⟨fun h => ha (List.mem_singleton.mp h), List.not_mem_nil⟩
  have axes : a = 0 ∨ a = 1 ∨ a = 2 := by
    match a with
    | ⟨0, _⟩ => exact .inl rfl
    | ⟨1, _⟩ => exact .inr (.inl rfl)
    | ⟨2, _⟩ => exact .inr (.inr rfl)
  rcases axes with rfl | rfl | rfl
  · rw [outer _ (by decide)]
    unfold GatherDims.offCoord
    rw [dif_pos (kept _ (by decide))]
    simp only [Nat.zero_add]
    exact h0.symm
  · rw [GatherDims.offCoord_eq_zero _ _ _ (fun h => ((GatherDims.mem_sKept _ _).mp h).1 (List.mem_singleton.mpr rfl))]
    unfold GatherDims.start
    rw [dif_pos (show (1 : Fin 3) ∈ dims.startIndexMap from List.mem_singleton.mpr rfl)]
    have hat : dims.siIdx y ⟨List.idxOf (1 : Fin 3) dims.startIndexMap, List.idxOf_lt_length_iff.2 (List.mem_singleton.mpr rfl)⟩ = p := by
      funext b
      refine Fin.ext ?_
      match b with
      | ⟨0, _⟩ => rfl
      | ⟨1, _⟩ => rfl
      | ⟨2, _⟩ => rfl
    refine (congrArg (fun q => min (rows q).toInt.toNat (4096 - 1) + 0 + 0) hat).trans ?_
    show min (rows p).toInt.toNat (4096 - 1) + 0 + 0 = (i 1).val
    rw [hp, h1]; omega
  · rw [outer _ (by decide)]
    unfold GatherDims.offCoord
    rw [dif_pos (kept _ (by decide))]
    simp only [Nat.zero_add]
    exact h2.symm

/-- The sum over the stacked pair of rows is the sum of the two. -/
theorem summed (x : FVec Ideal S16x4096x512 .f32) (o : S16x64x512.Idx) (i j : S16x4096x512.Idx)
    (i0 : (i 0).val = (o 0).val) (i1 : (i 1).val = (o 1).val) (i2 : (i 2).val = (o 2).val)
    (j0 : (j 0).val = (o 0).val) (j1 : (j 1).val = (o 1).val + 2048) (j2 : (j 2).val = (o 2).val) :
    Host.reduceAdd (Host.gather dims x rows) (constant (F := Ideal) S_ .f32 0x00000000#32) reducesTo_S16x64x2x512_S16x64x512_d2 h_S_ o
      = FloatOps.addf (x i) (x j) := by
  have hr : Shape.Reduces S16x64x2x512 [2] S16x64x512 := by decide
  show Ideal.hostReduceAdd reducesTo_S16x64x2x512_S16x64x512_d2 (Host.gather dims x rows) (Ideal.ofBits .f32 0x00000000#32) o = x i + x j
  rw [Ideal.hostReduceAdd_single _ hr, Ideal.ofBits_zero_f32, zero_add]
  refine (Fin.sum_univ_two (fun k : Fin 2 => Host.gather dims x rows (hr.lift o k))).trans ?_
  exact congrArg₂ (· + ·) (gathered x (hr.lift o (0 : Fin 2)) i i0 i1 i2) (gathered x (hr.lift o (1 : Fin 2)) j j0 j1 j2)

/-- The reference's result over the reals is the value the kernel leaves. -/
theorem value (x : FVec Ideal S16x4096x512 .f32) :
    concatenate S16x4160x512 1
      [⟨S16x4096x512, x⟩,
        ⟨S16x64x512, mulf (broadcastInDim S16x64x512 ![] bcast_S_S16x64x512 (constant (F := Ideal) S_ .f32 0x3F000000#32))
          (Host.reduceAdd (Host.gather dims x rows) (constant (F := Ideal) S_ .f32 0x00000000#32) reducesTo_S16x64x2x512_S16x64x512_d2 h_S_)⟩]
      concatenates_S16x4096x512_S16x64x512_S16x4160x512_d1 = G (F := Ideal) x := by
  funext o
  have b0 : (o 0).val < 16 := (o 0).isLt
  have b1 : (o 1).val < 4160 := (o 1).isLt
  have b2 : (o 2).val < 512 := (o 2).isLt
  by_cases h : (o 1).val < 4096
  · let i : S16x4096x512.Idx := fun a => match a with | ⟨0, _⟩ => ⟨(o 0).val, b0⟩ | ⟨1, _⟩ => ⟨(o 1).val, h⟩ | ⟨2, _⟩ => ⟨(o 2).val, b2⟩
    refine (concatenate_pair_apply_left 1 x _ _ o rfl i ?_).trans (G_copied (F := Ideal) x (o := o) (i := i) rfl rfl rfl).symm
    intro b
    match b with
    | ⟨0, _⟩ => rfl
    | ⟨1, _⟩ => rfl
    | ⟨2, _⟩ => rfl
  · let q : S16x64x512.Idx := fun a => match a with | ⟨0, _⟩ => ⟨(o 0).val, b0⟩ | ⟨1, _⟩ => ⟨(o 1).val - 4096, by show _ < 64; omega⟩ | ⟨2, _⟩ => ⟨(o 2).val, b2⟩
    let i : S16x4096x512.Idx := fun a => match a with | ⟨0, _⟩ => ⟨(o 0).val, b0⟩ | ⟨1, _⟩ => ⟨(o 1).val - 4096, by show _ < 4096; omega⟩ | ⟨2, _⟩ => ⟨(o 2).val, b2⟩
    let j : S16x4096x512.Idx := fun a => match a with | ⟨0, _⟩ => ⟨(o 0).val, b0⟩ | ⟨1, _⟩ => ⟨(o 1).val - 4096 + 2048, by show _ < 4096; omega⟩ | ⟨2, _⟩ => ⟨(o 2).val, b2⟩
    have hG : G (F := Ideal) x o = halfSum (F := Ideal) (x i) (x j) :=
      G_made (F := Ideal) x (o := o) (i := i) (j := j) rfl (by show (o 1).val - 4096 + 4096 = _; omega) rfl rfl rfl rfl
    rw [hG]
    refine (concatenate_pair_apply_right (s₂ := S16x64x512) 1 x _ _ o rfl rfl q ?_ ?_).trans ?_
    · intro b hb
      match b with
      | ⟨0, _⟩ => rfl
      | ⟨1, _⟩ => exact absurd rfl hb
      | ⟨2, _⟩ => rfl
    · show (o 1).val - 4096 + 4096 = _; omega
    · exact congrArg (FloatOps.mulf (F := Ideal) (Scalar.ofBits .f32 0x3F000000#32)) (summed x q i j rfl rfl rfl rfl rfl rfl)

end Cert.Proof.Unpool.Ref

end
-- ==== Proof.lean ====
/-
  The claims, from the kernel's run and the reference's.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Reference

@[expose] public section

noncomputable section

namespace Cert.Proof

open Idealize.ShloMosaic Idealize.SL.Sem

/-- The kernel ends, with its argument as it was and every semaphore at zero. The program over the machine's floats is the idealized
    one's text, so this is the run over those values. -/
theorem frame_kernel : Cert.quiescent_Kernel := fun m ρ _ =>
  (θ_run Cert.KernelIdeal.defs _ _).mono (fun _ h => ⟨fun c => (h.1 c).1, h.2⟩) (Unpool.run_main (F := Bits) m ρ)

/-- The same over the reals. -/
theorem frame_kernelIdeal : Cert.quiescent_KernelIdeal := fun m ρ _ =>
  (θ_run Cert.KernelIdeal.defs _ _).mono (fun _ h => ⟨fun c => (h.1 c).1, h.2⟩) (Unpool.run_main (F := Ideal) m ρ)

/-- The reference ends, with its argument as it was; it has no semaphore. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- From the same argument the idealized kernel and the reference leave the same result: both leave `G` of it. -/
theorem algebraic : Cert.algebraic_KernelIdeal_ReferenceIdeal := fun m g m' g' _ harg =>
  ⟨fun c => Unpool.G (F := Ideal) (Unpool.X₀ m c),
    (θ_run Cert.KernelIdeal.defs _ _).mono (fun _ h c => ⟨(h.1 c).2, (h.1 c).1⟩) (Unpool.run_main (F := Ideal) m g),
    (θ_run Cert.ReferenceIdeal.defs _ _).mono
      (fun _ h c => ⟨(h c).1.trans ((Unpool.Ref.value _).trans (congrArg (Unpool.G (F := Ideal)) (harg c))), (h c).2⟩)
      (Cert.ReferenceIdeal.Value.run (F := Ideal) m' g')⟩

/-- Every claim the statement makes. -/
theorem claim : Cert.Claim :=
  ⟨Cert.Kernel.Gen.facts, Cert.KernelIdeal.Gen.facts, Cert.ReferenceIdeal.Gen.facts, frame_kernel, frame_kernelIdeal,
    frame_referenceIdeal, trivial, algebraic⟩

end Cert.Proof

end
